-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProjAb (m : (ℓ : Loc Cert.InProjAb.nD Cert.InProjAb.τ Cert.InProjAb.sig) → Buf (Elt Bits) ℓ) : Prop :=
  True

def Pre_InProjAbIdeal (m : (ℓ : Loc Cert.InProjAbIdeal.nD Cert.InProjAbIdeal.τ Cert.InProjAbIdeal.sig) → Buf (Elt Ideal) ℓ) : Prop :=
  True

def Pre_InProjAbRefIdeal (m : (ℓ : Loc Cert.InProjAbRefIdeal.nD Cert.InProjAbRefIdeal.τ Cert.InProjAbRefIdeal.sig) → Buf (Elt Ideal) ℓ) : Prop :=
  True

def Pre_InProjCd (m : (ℓ : Loc Cert.InProjCd.nD Cert.InProjCd.τ Cert.InProjCd.sig) → Buf (Elt Bits) ℓ) : Prop :=
  True

def Pre_InProjCdIdeal (m : (ℓ : Loc Cert.InProjCdIdeal.nD Cert.InProjCdIdeal.τ Cert.InProjCdIdeal.sig) → Buf (Elt Ideal) ℓ) : Prop :=
  True

def Pre_InProjCdRefIdeal (m : (ℓ : Loc Cert.InProjCdRefIdeal.nD Cert.InProjCdRefIdeal.τ Cert.InProjCdRefIdeal.sig) → Buf (Elt Ideal) ℓ) : Prop :=
  True

def Pre_CastRotate (m : (ℓ : Loc Cert.CastRotate.nD Cert.CastRotate.τ Cert.CastRotate.sig) → Buf (Elt Bits) ℓ) : Prop :=
  True

def Pre_CastRotateIdeal (m : (ℓ : Loc Cert.CastRotateIdeal.nD Cert.CastRotateIdeal.τ Cert.CastRotateIdeal.sig) → Buf (Elt Ideal) ℓ) : Prop :=
  True

def Pre_CastRotateRefIdeal (m : (ℓ : Loc Cert.CastRotateRefIdeal.nD Cert.CastRotateRefIdeal.τ Cert.CastRotateRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProjAb [hInProjAb : Cert.InProjAb.Facts] : Prop :=
  ∀ (m : (ℓ : Loc Cert.InProjAb.nD Cert.InProjAb.τ Cert.InProjAb.sig) → Buf (Elt Bits) ℓ) (g : Dev Cert.InProjAb.nD → PrngReg), Pre_InProjAb m →
    θ_run (Cert.InProjAb.defs (F := Bits)) (onTc (τ := Cert.InProjAb.τ) (Cert.InProjAb.main (F := Bits))) ⟨m, fun _ => 0, g⟩ (fun r => (∀ c : Dev Cert.InProjAb.nD,
      r.2.mem ((c.tc : Thread Cert.InProjAb.nD Cert.InProjAb.τ).loc Cert.InProjAb.main_arg0) = m ((c.tc : Thread Cert.InProjAb.nD Cert.InProjAb.τ).loc Cert.InProjAb.main_arg0)
      ∧ r.2.mem ((c.tc : Thread Cert.InProjAb.nD Cert.InProjAb.τ).loc Cert.InProjAb.main_arg1) = m ((c.tc : Thread Cert.InProjAb.nD Cert.InProjAb.τ).loc Cert.InProjAb.main_arg1))
      ∧ r.2.sem = fun _ => 0)

def quiescent_InProjAbIdeal [hInProjAbIdeal : Cert.InProjAbIdeal.Facts] : Prop :=
  ∀ (m : (ℓ : Loc Cert.InProjAbIdeal.nD Cert.InProjAbIdeal.τ Cert.InProjAbIdeal.sig) → Buf (Elt Ideal) ℓ) (g : Dev Cert.InProjAbIdeal.nD → PrngReg), Pre_InProjAbIdeal m →
    θ_run (Cert.InProjAbIdeal.defs (F := Ideal)) (onTc (τ := Cert.InProjAbIdeal.τ) (Cert.InProjAbIdeal.main (F := Ideal))) ⟨m, fun _ => 0, g⟩ (fun r => (∀ c : Dev Cert.InProjAbIdeal.nD,
      r.2.mem ((c.tc : Thread Cert.InProjAbIdeal.nD Cert.InProjAbIdeal.τ).loc Cert.InProjAbIdeal.main_arg0) = m ((c.tc : Thread Cert.InProjAbIdeal.nD Cert.InProjAbIdeal.τ).loc Cert.InProjAbIdeal.main_arg0)
      ∧ r.2.mem ((c.tc : Thread Cert.InProjAbIdeal.nD Cert.InProjAbIdeal.τ).loc Cert.InProjAbIdeal.main_arg1) = m ((c.tc : Thread Cert.InProjAbIdeal.nD Cert.InProjAbIdeal.τ).loc Cert.InProjAbIdeal.main_arg1))
      ∧ r.2.sem = fun _ => 0)

def quiescent_InProjAbRefIdeal [hInProjAbRefIdeal : Cert.InProjAbRefIdeal.Facts] : Prop :=
  ∀ (m : (ℓ : Loc Cert.InProjAbRefIdeal.nD Cert.InProjAbRefIdeal.τ Cert.InProjAbRefIdeal.sig) → Buf (Elt Ideal) ℓ) (g : Dev Cert.InProjAbRefIdeal.nD → PrngReg), Pre_InProjAbRefIdeal m →
    θ_run (Cert.InProjAbRefIdeal.defs (F := Ideal)) (onTc (τ := Cert.InProjAbRefIdeal.τ) (Cert.InProjAbRefIdeal.main (F := Ideal))) ⟨m, fun _ => 0, g⟩ (fun r => (∀ c : Dev Cert.InProjAbRefIdeal.nD,
      r.2.mem ((c.tc : Thread Cert.InProjAbRefIdeal.nD Cert.InProjAbRefIdeal.τ).loc Cert.InProjAbRefIdeal.main_arg0) = m ((c.tc : Thread Cert.InProjAbRefIdeal.nD Cert.InProjAbRefIdeal.τ).loc Cert.InProjAbRefIdeal.main_arg0)
      ∧ r.2.mem ((c.tc : Thread Cert.InProjAbRefIdeal.nD Cert.InProjAbRefIdeal.τ).loc Cert.InProjAbRefIdeal.main_arg1) = m ((c.tc : Thread Cert.InProjAbRefIdeal.nD Cert.InProjAbRefIdeal.τ).loc Cert.InProjAbRefIdeal.main_arg1))
      ∧ r.2.sem = fun _ => 0)

def quiescent_InProjCd [hInProjCd : Cert.InProjCd.Facts] : Prop :=
  ∀ (m : (ℓ : Loc Cert.InProjCd.nD Cert.InProjCd.τ Cert.InProjCd.sig) → Buf (Elt Bits) ℓ) (g : Dev Cert.InProjCd.nD → PrngReg), Pre_InProjCd m →
    θ_run (Cert.InProjCd.defs (F := Bits)) (onTc (τ := Cert.InProjCd.τ) (Cert.InProjCd.main (F := Bits))) ⟨m, fun _ => 0, g⟩ (fun r => (∀ c : Dev Cert.InProjCd.nD,
      r.2.mem ((c.tc : Thread Cert.InProjCd.nD Cert.InProjCd.τ).loc Cert.InProjCd.main_arg0) = m ((c.tc : Thread Cert.InProjCd.nD Cert.InProjCd.τ).loc Cert.InProjCd.main_arg0)
      ∧ r.2.mem ((c.tc : Thread Cert.InProjCd.nD Cert.InProjCd.τ).loc Cert.InProjCd.main_arg1) = m ((c.tc : Thread Cert.InProjCd.nD Cert.InProjCd.τ).loc Cert.InProjCd.main_arg1))
      ∧ r.2.sem = fun _ => 0)

def quiescent_InProjCdIdeal [hInProjCdIdeal : Cert.InProjCdIdeal.Facts] : Prop :=
  ∀ (m : (ℓ : Loc Cert.InProjCdIdeal.nD Cert.InProjCdIdeal.τ Cert.InProjCdIdeal.sig) → Buf (Elt Ideal) ℓ) (g : Dev Cert.InProjCdIdeal.nD → PrngReg), Pre_InProjCdIdeal m →
    θ_run (Cert.InProjCdIdeal.defs (F := Ideal)) (onTc (τ := Cert.InProjCdIdeal.τ) (Cert.InProjCdIdeal.main (F := Ideal))) ⟨m, fun _ => 0, g⟩ (fun r => (∀ c : Dev Cert.InProjCdIdeal.nD,
      r.2.mem ((c.tc : Thread Cert.InProjCdIdeal.nD Cert.InProjCdIdeal.τ).loc Cert.InProjCdIdeal.main_arg0) = m ((c.tc : Thread Cert.InProjCdIdeal.nD Cert.InProjCdIdeal.τ).loc Cert.InProjCdIdeal.main_arg0)
      ∧ r.2.mem ((c.tc : Thread Cert.InProjCdIdeal.nD Cert.InProjCdIdeal.τ).loc Cert.InProjCdIdeal.main_arg1) = m ((c.tc : Thread Cert.InProjCdIdeal.nD Cert.InProjCdIdeal.τ).loc Cert.InProjCdIdeal.main_arg1))
      ∧ r.2.sem = fun _ => 0)

def quiescent_InProjCdRefIdeal [hInProjCdRefIdeal : Cert.InProjCdRefIdeal.Facts] : Prop :=
  ∀ (m : (ℓ : Loc Cert.InProjCdRefIdeal.nD Cert.InProjCdRefIdeal.τ Cert.InProjCdRefIdeal.sig) → Buf (Elt Ideal) ℓ) (g : Dev Cert.InProjCdRefIdeal.nD → PrngReg), Pre_InProjCdRefIdeal m →
    θ_run (Cert.InProjCdRefIdeal.defs (F := Ideal)) (onTc (τ := Cert.InProjCdRefIdeal.τ) (Cert.InProjCdRefIdeal.main (F := Ideal))) ⟨m, fun _ => 0, g⟩ (fun r => (∀ c : Dev Cert.InProjCdRefIdeal.nD,
      r.2.mem ((c.tc : Thread Cert.InProjCdRefIdeal.nD Cert.InProjCdRefIdeal.τ).loc Cert.InProjCdRefIdeal.main_arg0) = m ((c.tc : Thread Cert.InProjCdRefIdeal.nD Cert.InProjCdRefIdeal.τ).loc Cert.InProjCdRefIdeal.main_arg0)
      ∧ r.2.mem ((c.tc : Thread Cert.InProjCdRefIdeal.nD Cert.InProjCdRefIdeal.τ).loc Cert.InProjCdRefIdeal.main_arg1) = m ((c.tc : Thread Cert.InProjCdRefIdeal.nD Cert.InProjCdRefIdeal.τ).loc Cert.InProjCdRefIdeal.main_arg1))
      ∧ r.2.sem = fun _ => 0)

def quiescent_CastRotate [hCastRotate : Cert.CastRotate.Facts] : Prop :=
  ∀ (m : (ℓ : Loc Cert.CastRotate.nD Cert.CastRotate.τ Cert.CastRotate.sig) → Buf (Elt Bits) ℓ) (g : Dev Cert.CastRotate.nD → PrngReg), Pre_CastRotate m →
    θ_run (Cert.CastRotate.defs (F := Bits)) (onTc (τ := Cert.CastRotate.τ) (Cert.CastRotate.main (F := Bits))) ⟨m, fun _ => 0, g⟩ (fun r => (∀ c : Dev Cert.CastRotate.nD,
      r.2.mem ((c.tc : Thread Cert.CastRotate.nD Cert.CastRotate.τ).loc Cert.CastRotate.main_arg0) = m ((c.tc : Thread Cert.CastRotate.nD Cert.CastRotate.τ).loc Cert.CastRotate.main_arg0))
      ∧ r.2.sem = fun _ => 0)

def quiescent_CastRotateIdeal [hCastRotateIdeal : Cert.CastRotateIdeal.Facts] : Prop :=
  ∀ (m : (ℓ : Loc Cert.CastRotateIdeal.nD Cert.CastRotateIdeal.τ Cert.CastRotateIdeal.sig) → Buf (Elt Ideal) ℓ) (g : Dev Cert.CastRotateIdeal.nD → PrngReg), Pre_CastRotateIdeal m →
    θ_run (Cert.CastRotateIdeal.defs (F := Ideal)) (onTc (τ := Cert.CastRotateIdeal.τ) (Cert.CastRotateIdeal.main (F := Ideal))) ⟨m, fun _ => 0, g⟩ (fun r => (∀ c : Dev Cert.CastRotateIdeal.nD,
      r.2.mem ((c.tc : Thread Cert.CastRotateIdeal.nD Cert.CastRotateIdeal.τ).loc Cert.CastRotateIdeal.main_arg0) = m ((c.tc : Thread Cert.CastRotateIdeal.nD Cert.CastRotateIdeal.τ).loc Cert.CastRotateIdeal.main_arg0))
      ∧ r.2.sem = fun _ => 0)

def quiescent_CastRotateRefIdeal [hCastRotateRefIdeal : Cert.CastRotateRefIdeal.Facts] : Prop :=
  ∀ (m : (ℓ : Loc Cert.CastRotateRefIdeal.nD Cert.CastRotateRefIdeal.τ Cert.CastRotateRefIdeal.sig) → Buf (Elt Ideal) ℓ) (g : Dev Cert.CastRotateRefIdeal.nD → PrngReg), Pre_CastRotateRefIdeal m →
    θ_run (Cert.CastRotateRefIdeal.defs (F := Ideal)) (onTc (τ := Cert.CastRotateRefIdeal.τ) (Cert.CastRotateRefIdeal.main (F := Ideal))) ⟨m, fun _ => 0, g⟩ (fun r => (∀ c : Dev Cert.CastRotateRefIdeal.nD,
      r.2.mem ((c.tc : Thread Cert.CastRotateRefIdeal.nD Cert.CastRotateRefIdeal.τ).loc Cert.CastRotateRefIdeal.main_arg0) = m ((c.tc : Thread Cert.CastRotateRefIdeal.nD Cert.CastRotateRefIdeal.τ).loc Cert.CastRotateRefIdeal.main_arg0))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProjAb_InProjAbIdeal : Prop :=
  True

def algebraic_InProjAbIdeal_InProjAbRefIdeal [hInProjAbIdeal : Cert.InProjAbIdeal.Facts] [hInProjAbRefIdeal : Cert.InProjAbRefIdeal.Facts] : Prop :=
  ∀ (m : (ℓ : Loc Cert.InProjAbIdeal.nD Cert.InProjAbIdeal.τ Cert.InProjAbIdeal.sig) → Buf (Elt Ideal) ℓ) (g : Dev Cert.InProjAbIdeal.nD → PrngReg)
    (m' : (ℓ : Loc Cert.InProjAbRefIdeal.nD Cert.InProjAbRefIdeal.τ Cert.InProjAbRefIdeal.sig) → Buf (Elt Ideal) ℓ) (g' : Dev Cert.InProjAbRefIdeal.nD → PrngReg), Pre_InProjAbIdeal m →
    (∀ c : Dev Cert.InProjAbIdeal.nD,
      m' ((c.tc : Thread Cert.InProjAbRefIdeal.nD Cert.InProjAbRefIdeal.τ).loc Cert.InProjAbRefIdeal.main_arg0) = m ((c.tc : Thread Cert.InProjAbIdeal.nD Cert.InProjAbIdeal.τ).loc Cert.InProjAbIdeal.main_arg0)
      ∧ m' ((c.tc : Thread Cert.InProjAbRefIdeal.nD Cert.InProjAbRefIdeal.τ).loc Cert.InProjAbRefIdeal.main_arg1) = m ((c.tc : Thread Cert.InProjAbIdeal.nD Cert.InProjAbIdeal.τ).loc Cert.InProjAbIdeal.main_arg1)) →
    ∃ (v0 : (c : Dev Cert.InProjAbIdeal.nD) → Buf (Elt Ideal) ((c.tc : Thread Cert.InProjAbIdeal.nD Cert.InProjAbIdeal.τ).loc Cert.InProjAbIdeal.main_v1)),
      θ_run (Cert.InProjAbIdeal.defs (F := Ideal)) (onTc (τ := Cert.InProjAbIdeal.τ) (Cert.InProjAbIdeal.main (F := Ideal))) ⟨m, fun _ => 0, g⟩ (fun r => ∀ c : Dev Cert.InProjAbIdeal.nD,
          r.2.mem ((c.tc : Thread Cert.InProjAbIdeal.nD Cert.InProjAbIdeal.τ).loc Cert.InProjAbIdeal.main_v1) = v0 c
          ∧ r.2.mem ((c.tc : Thread Cert.InProjAbIdeal.nD Cert.InProjAbIdeal.τ).loc Cert.InProjAbIdeal.main_arg0) = m ((c.tc : Thread Cert.InProjAbIdeal.nD Cert.InProjAbIdeal.τ).loc Cert.InProjAbIdeal.main_arg0)
          ∧ r.2.mem ((c.tc : Thread Cert.InProjAbIdeal.nD Cert.InProjAbIdeal.τ).loc Cert.InProjAbIdeal.main_arg1) = m ((c.tc : Thread Cert.InProjAbIdeal.nD Cert.InProjAbIdeal.τ).loc Cert.InProjAbIdeal.main_arg1))
      ∧ θ_run (Cert.InProjAbRefIdeal.defs (F := Ideal)) (onTc (τ := Cert.InProjAbRefIdeal.τ) (Cert.InProjAbRefIdeal.main (F := Ideal))) ⟨m', fun _ => 0, g'⟩ (fun r => ∀ c : Dev Cert.InProjAbRefIdeal.nD,
          r.2.mem ((c.tc : Thread Cert.InProjAbRefIdeal.nD Cert.InProjAbRefIdeal.τ).loc Cert.InProjAbRefIdeal.main_v3) = v0 c
          ∧ r.2.mem ((c.tc : Thread Cert.InProjAbRefIdeal.nD Cert.InProjAbRefIdeal.τ).loc Cert.InProjAbRefIdeal.main_arg0) = m' ((c.tc : Thread Cert.InProjAbRefIdeal.nD Cert.InProjAbRefIdeal.τ).loc Cert.InProjAbRefIdeal.main_arg0)
          ∧ r.2.mem ((c.tc : Thread Cert.InProjAbRefIdeal.nD Cert.InProjAbRefIdeal.τ).loc Cert.InProjAbRefIdeal.main_arg1) = m' ((c.tc : Thread Cert.InProjAbRefIdeal.nD Cert.InProjAbRefIdeal.τ).loc Cert.InProjAbRefIdeal.main_arg1))

def preserves_InProjCd_InProjCdIdeal : Prop :=
  True

def algebraic_InProjCdIdeal_InProjCdRefIdeal [hInProjCdIdeal : Cert.InProjCdIdeal.Facts] [hInProjCdRefIdeal : Cert.InProjCdRefIdeal.Facts] : Prop :=
  ∀ (m : (ℓ : Loc Cert.InProjCdIdeal.nD Cert.InProjCdIdeal.τ Cert.InProjCdIdeal.sig) → Buf (Elt Ideal) ℓ) (g : Dev Cert.InProjCdIdeal.nD → PrngReg)
    (m' : (ℓ : Loc Cert.InProjCdRefIdeal.nD Cert.InProjCdRefIdeal.τ Cert.InProjCdRefIdeal.sig) → Buf (Elt Ideal) ℓ) (g' : Dev Cert.InProjCdRefIdeal.nD → PrngReg), Pre_InProjCdIdeal m →
    (∀ c : Dev Cert.InProjCdIdeal.nD,
      m' ((c.tc : Thread Cert.InProjCdRefIdeal.nD Cert.InProjCdRefIdeal.τ).loc Cert.InProjCdRefIdeal.main_arg0) = m ((c.tc : Thread Cert.InProjCdIdeal.nD Cert.InProjCdIdeal.τ).loc Cert.InProjCdIdeal.main_arg0)
      ∧ m' ((c.tc : Thread Cert.InProjCdRefIdeal.nD Cert.InProjCdRefIdeal.τ).loc Cert.InProjCdRefIdeal.main_arg1) = m ((c.tc : Thread Cert.InProjCdIdeal.nD Cert.InProjCdIdeal.τ).loc Cert.InProjCdIdeal.main_arg1)) →
    ∃ (v0 : (c : Dev Cert.InProjCdIdeal.nD) → Buf (Elt Ideal) ((c.tc : Thread Cert.InProjCdIdeal.nD Cert.InProjCdIdeal.τ).loc Cert.InProjCdIdeal.main_v2)),
      θ_run (Cert.InProjCdIdeal.defs (F := Ideal)) (onTc (τ := Cert.InProjCdIdeal.τ) (Cert.InProjCdIdeal.main (F := Ideal))) ⟨m, fun _ => 0, g⟩ (fun r => ∀ c : Dev Cert.InProjCdIdeal.nD,
          r.2.mem ((c.tc : Thread Cert.InProjCdIdeal.nD Cert.InProjCdIdeal.τ).loc Cert.InProjCdIdeal.main_v2) = v0 c
          ∧ r.2.mem ((c.tc : Thread Cert.InProjCdIdeal.nD Cert.InProjCdIdeal.τ).loc Cert.InProjCdIdeal.main_arg0) = m ((c.tc : Thread Cert.InProjCdIdeal.nD Cert.InProjCdIdeal.τ).loc Cert.InProjCdIdeal.main_arg0)
          ∧ r.2.mem ((c.tc : Thread Cert.InProjCdIdeal.nD Cert.InProjCdIdeal.τ).loc Cert.InProjCdIdeal.main_arg1) = m ((c.tc : Thread Cert.InProjCdIdeal.nD Cert.InProjCdIdeal.τ).loc Cert.InProjCdIdeal.main_arg1))
      ∧ θ_run (Cert.InProjCdRefIdeal.defs (F := Ideal)) (onTc (τ := Cert.InProjCdRefIdeal.τ) (Cert.InProjCdRefIdeal.main (F := Ideal))) ⟨m', fun _ => 0, g'⟩ (fun r => ∀ c : Dev Cert.InProjCdRefIdeal.nD,
          r.2.mem ((c.tc : Thread Cert.InProjCdRefIdeal.nD Cert.InProjCdRefIdeal.τ).loc Cert.InProjCdRefIdeal.main_v2) = v0 c
          ∧ r.2.mem ((c.tc : Thread Cert.InProjCdRefIdeal.nD Cert.InProjCdRefIdeal.τ).loc Cert.InProjCdRefIdeal.main_arg0) = m' ((c.tc : Thread Cert.InProjCdRefIdeal.nD Cert.InProjCdRefIdeal.τ).loc Cert.InProjCdRefIdeal.main_arg0)
          ∧ r.2.mem ((c.tc : Thread Cert.InProjCdRefIdeal.nD Cert.InProjCdRefIdeal.τ).loc Cert.InProjCdRefIdeal.main_arg1) = m' ((c.tc : Thread Cert.InProjCdRefIdeal.nD Cert.InProjCdRefIdeal.τ).loc Cert.InProjCdRefIdeal.main_arg1))

def preserves_CastRotate_CastRotateIdeal : Prop :=
  True

def algebraic_CastRotateIdeal_CastRotateRefIdeal [hCastRotateIdeal : Cert.CastRotateIdeal.Facts] [hCastRotateRefIdeal : Cert.CastRotateRefIdeal.Facts] : Prop :=
  ∀ (m : (ℓ : Loc Cert.CastRotateIdeal.nD Cert.CastRotateIdeal.τ Cert.CastRotateIdeal.sig) → Buf (Elt Ideal) ℓ) (g : Dev Cert.CastRotateIdeal.nD → PrngReg)
    (m' : (ℓ : Loc Cert.CastRotateRefIdeal.nD Cert.CastRotateRefIdeal.τ Cert.CastRotateRefIdeal.sig) → Buf (Elt Ideal) ℓ) (g' : Dev Cert.CastRotateRefIdeal.nD → PrngReg), Pre_CastRotateIdeal m →
    (∀ c : Dev Cert.CastRotateIdeal.nD,
      m' ((c.tc : Thread Cert.CastRotateRefIdeal.nD Cert.CastRotateRefIdeal.τ).loc Cert.CastRotateRefIdeal.main_arg0) = m ((c.tc : Thread Cert.CastRotateIdeal.nD Cert.CastRotateIdeal.τ).loc Cert.CastRotateIdeal.main_arg0)) →
    ∃ (v0 : (c : Dev Cert.CastRotateIdeal.nD) → Buf (Elt Ideal) ((c.tc : Thread Cert.CastRotateIdeal.nD Cert.CastRotateIdeal.τ).loc Cert.CastRotateIdeal.main_v0)),
      θ_run (Cert.CastRotateIdeal.defs (F := Ideal)) (onTc (τ := Cert.CastRotateIdeal.τ) (Cert.CastRotateIdeal.main (F := Ideal))) ⟨m, fun _ => 0, g⟩ (fun r => ∀ c : Dev Cert.CastRotateIdeal.nD,
          r.2.mem ((c.tc : Thread Cert.CastRotateIdeal.nD Cert.CastRotateIdeal.τ).loc Cert.CastRotateIdeal.main_v0) = v0 c
          ∧ r.2.mem ((c.tc : Thread Cert.CastRotateIdeal.nD Cert.CastRotateIdeal.τ).loc Cert.CastRotateIdeal.main_arg0) = m ((c.tc : Thread Cert.CastRotateIdeal.nD Cert.CastRotateIdeal.τ).loc Cert.CastRotateIdeal.main_arg0))
      ∧ θ_run (Cert.CastRotateRefIdeal.defs (F := Ideal)) (onTc (τ := Cert.CastRotateRefIdeal.τ) (Cert.CastRotateRefIdeal.main (F := Ideal))) ⟨m', fun _ => 0, g'⟩ (fun r => ∀ c : Dev Cert.CastRotateRefIdeal.nD,
          r.2.mem ((c.tc : Thread Cert.CastRotateRefIdeal.nD Cert.CastRotateRefIdeal.τ).loc Cert.CastRotateRefIdeal.main_v5) = v0 c
          ∧ r.2.mem ((c.tc : Thread Cert.CastRotateRefIdeal.nD Cert.CastRotateRefIdeal.τ).loc Cert.CastRotateRefIdeal.main_arg0) = m' ((c.tc : Thread Cert.CastRotateRefIdeal.nD Cert.CastRotateRefIdeal.τ).loc Cert.CastRotateRefIdeal.main_arg0))

def preserves_OutProj_OutProjIdeal : Prop :=
  IdealRules.bf16_pair.BufferStatement Cert.OutProjIdeal.S131072x2x128 Cert.OutProjIdeal.S131072x1x128
  ∧ IdealRules.bf16_pair.BufferStatement Cert.OutProjIdeal.S4096x2x128 Cert.OutProjIdeal.S4096x1x128
  ∧ IdealRules.bf16_pair.Statement Cert.OutProjIdeal.S128x2x128 Cert.OutProjIdeal.S128x1x128
  ∧ IdealRules.bf16_pack.Statement Cert.OutProjIdeal.S128x128

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v4_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v31) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v7)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v7) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v72) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def Claim : Prop :=
  ∃ (hKernel : Cert.Kernel.Facts) (hKernelIdeal : Cert.KernelIdeal.Facts) (hReferenceIdeal : Cert.ReferenceIdeal.Facts) (hInProjAb : Cert.InProjAb.Facts) (hInProjAbIdeal : Cert.InProjAbIdeal.Facts) (hInProjAbRefIdeal : Cert.InProjAbRefIdeal.Facts) (hInProjCd : Cert.InProjCd.Facts) (hInProjCdIdeal : Cert.InProjCdIdeal.Facts) (hInProjCdRefIdeal : Cert.InProjCdRefIdeal.Facts) (hCastRotate : Cert.CastRotate.Facts) (hCastRotateIdeal : Cert.CastRotateIdeal.Facts) (hCastRotateRefIdeal : Cert.CastRotateRefIdeal.Facts) (hOutProj : Cert.OutProj.Facts) (hOutProjIdeal : Cert.OutProjIdeal.Facts) (hOutProjRefIdeal : Cert.OutProjRefIdeal.Facts) (hGmlp : Cert.Gmlp.Facts) (hGmlpIdeal : Cert.GmlpIdeal.Facts) (hGmlpRefIdeal : Cert.GmlpRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProjAb (hInProjAb := hInProjAb)
    ∧ quiescent_InProjAbIdeal (hInProjAbIdeal := hInProjAbIdeal)
    ∧ quiescent_InProjAbRefIdeal (hInProjAbRefIdeal := hInProjAbRefIdeal)
    ∧ quiescent_InProjCd (hInProjCd := hInProjCd)
    ∧ quiescent_InProjCdIdeal (hInProjCdIdeal := hInProjCdIdeal)
    ∧ quiescent_InProjCdRefIdeal (hInProjCdRefIdeal := hInProjCdRefIdeal)
    ∧ quiescent_CastRotate (hCastRotate := hCastRotate)
    ∧ quiescent_CastRotateIdeal (hCastRotateIdeal := hCastRotateIdeal)
    ∧ quiescent_CastRotateRefIdeal (hCastRotateRefIdeal := hCastRotateRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProjAb_InProjAbIdeal
    ∧ algebraic_InProjAbIdeal_InProjAbRefIdeal (hInProjAbIdeal := hInProjAbIdeal) (hInProjAbRefIdeal := hInProjAbRefIdeal)
    ∧ preserves_InProjCd_InProjCdIdeal
    ∧ algebraic_InProjCdIdeal_InProjCdRefIdeal (hInProjCdIdeal := hInProjCdIdeal) (hInProjCdRefIdeal := hInProjCdRefIdeal)
    ∧ preserves_CastRotate_CastRotateIdeal
    ∧ algebraic_CastRotateIdeal_CastRotateRefIdeal (hCastRotateIdeal := hCastRotateIdeal) (hCastRotateRefIdeal := hCastRotateRefIdeal)
    ∧ preserves_OutProj_OutProjIdeal
    ∧ algebraic_OutProjIdeal_OutProjRefIdeal (hOutProjIdeal := hOutProjIdeal) (hOutProjRefIdeal := hOutProjRefIdeal)
    ∧ preserves_Gmlp_GmlpIdeal
    ∧ algebraic_GmlpIdeal_GmlpRefIdeal (hGmlpIdeal := hGmlpIdeal) (hGmlpRefIdeal := hGmlpRefIdeal)
-- ==== Pre_finite.lean ====
abbrev S8x2048x5376 : Shape := ⟨3, ![8, 2048, 5376]⟩
abbrev S1x16 : Shape := ⟨2, ![1, 16]⟩
abbrev S32x16 : Shape := ⟨2, ![32, 16]⟩
abbrev S8x2048x1152 : Shape := ⟨3, ![8, 2048, 1152]⟩
abbrev S_ : Shape := ⟨0, ![]⟩

class Facts : Prop where
  slices_S8x2048x5376_S8x2048x1152_0_0_4096 : S8x2048x5376.Slices ![0, 0, 4096] S8x2048x1152
  bitsLt_bf16_f32 : FTy.bits .bf16 < FTy.bits .f32
  bcast_S_S8x2048x1152 : S_.BroadcastsInDim S8x2048x1152 (![] : Fin 0 → Fin S8x2048x1152.rank)
  reducesTo_S8x2048x1152_S_d0_1_2 : S8x2048x1152.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_
  bcast_S_S32x16 : S_.BroadcastsInDim S32x16 (![] : Fin 0 → Fin S32x16.rank)
  reducesTo_S32x16_S_d0_1 : S32x16.ReducesTo [0, 1] S_

variable [Facts]

def fn {F : FTy → Type} [FloatOps F] (main_arg0 : FVec F S8x2048x5376 .bf16) (main_arg1 : FVec F S1x16 .f32) (main_arg2 : FVec F S32x16 .f32) : IVec S_ 1 :=
  let main_v0 : FVec F S8x2048x1152 .bf16 := (extractStridedSlice S8x2048x1152 ![0, 0, 4096] · slices_S8x2048x5376_S8x2048x1152_0_0_4096) main_arg0
  let main_v1 : FVec F S8x2048x1152 .f32 := (extf .f32 · bitsLt_bf16_f32) main_v0
  let main_v2 : FVec F S8x2048x1152 .f32 := Host.absf main_v1
  let main_cst : FVec F S_ .f32 := constant S_ .f32 0x7F800000#32
  let main_v3 : FVec F S8x2048x1152 .f32 := broadcastInDim S8x2048x1152 ![] bcast_S_S8x2048x1152 main_cst
  let main_v4 : IVec S8x2048x1152 1 := cmpf .olt main_v2 main_v3
  let main_c : IVec S_ 1 := constantI S_ 1 1#1
  let main_v5 : IVec S_ 1 := (fun x v => Host.reduce IntOp.andi x v reducesTo_S8x2048x1152_S_d0_1_2 h_S_) main_v4 main_c
  let main_v6 : FVec F S1x16 .f32 := Host.absf main_arg1
  let main_cst_0 : FVec F S_ .f32 := constant S_ .f32 0x7F800000#32
  let main_v7 : FVec F S1x16 .f32 := broadcastInDim S1x16 ![] bcast_S_S1x16 main_cst_0
  let main_v8 : IVec S1x16 1 := cmpf .olt main_v6 main_v7
  let main_c_1 : IVec S_ 1 := constantI S_ 1 1#1
  let main_v9 : IVec S_ 1 := (fun x v => Host.reduce IntOp.andi x v reducesTo_S1x16_S_d0_1 h_S_) main_v8 main_c_1
  let main_v10 : IVec S_ 1 := andi main_v5 main_v9
  let main_v11 : FVec F S32x16 .f32 := Host.absf main_arg2
  let main_cst_2 : FVec F S_ .f32 := constant S_ .f32 0x7F800000#32
  let main_v12 : FVec F S32x16 .f32 := broadcastInDim S32x16 ![] bcast_S_S32x16 main_cst_2
  let main_v13 : IVec S32x16 1 := cmpf .olt main_v11 main_v12
  let main_c_3 : IVec S_ 1 := constantI S_ 1 1#1
  let main_v14 : IVec S_ 1 := (fun x v => Host.reduce IntOp.andi x v reducesTo_S32x16_S_d0_1 h_S_) main_v13 main_c_3
  let main_v15 : IVec S_ 1 := andi main_v10 main_v14
  main_v15
-- ==== Kernel.lean ====
abbrev S8x2048x5376 : Shape := ⟨3, ![8, 2048, 5376]⟩
abbrev S1x16 : Shape := ⟨2, ![1, 16]⟩
abbrev S32x16 : Shape := ⟨2, ![32, 16]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S16x128x256 : Shape := ⟨3, ![16, 128, 256]⟩
abbrev S1x128x256 : Shape := ⟨3, ![1, 128, 256]⟩
abbrev S1x1x256 : Shape := ⟨3, ![1, 1, 256]⟩
abbrev S1x16x128x256 : Shape := ⟨4, ![1, 16, 128, 256]⟩
abbrev S2x16x128x256 : Shape := ⟨4, ![2, 16, 128, 256]⟩
abbrev S8x2048x1024 : Shape := ⟨3, ![8, 2048, 1024]⟩
abbrev S1x256x1024 : Shape := ⟨3, ![1, 256, 1024]⟩
abbrev S1x256x128 : Shape := ⟨3, ![1, 256, 128]⟩
abbrev S1x128x128 : Shape := ⟨3, ![1, 128, 128]⟩
abbrev S128x128 : Shape := ⟨2, ![128, 128]⟩
abbrev S256x128 : Shape := ⟨2, ![256, 128]⟩
abbrev S384x128 : Shape := ⟨2, ![384, 128]⟩
abbrev S256x64 : Shape := ⟨2, ![256, 64]⟩
abbrev S1x128x1024 : Shape := ⟨3, ![1, 128, 1024]⟩
abbrev S128x1024 : Shape := ⟨2, ![128, 1024]⟩
abbrev S128x64 : Shape := ⟨2, ![128, 64]⟩
abbrev S1024x64 : Shape := ⟨2, ![1024, 64]⟩
abbrev S1024x256 : Shape := ⟨2, ![1024, 256]⟩
abbrev S1x1x128x256 : Shape := ⟨4, ![1, 1, 128, 256]⟩
abbrev S1 : Shape := ⟨1, ![1]⟩

abbrev nBuf : Space → Nat
  | .hbm => 76
  | .vmem => 13
  | .smem => 1
  | _ => 0

abbrev bufTy : (tb : Table) → Fin (tcTables nBuf tb) → BufTy
  | .hbm, ⟨0, _⟩ => ⟨S8x2048x5376, .bf16⟩
  | .hbm, ⟨1, _⟩ => ⟨S1x16, .f32⟩
  | .hbm, ⟨2, _⟩ => ⟨S32x16, .f32⟩
  | .hbm, ⟨3, _⟩ => ⟨S16, .f32⟩
  | .hbm, ⟨4, _⟩ => ⟨S128, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S128x256, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i32⟩
  | .hbm, ⟨42, _⟩ => ⟨S128x256x1, .i32⟩
  | .hbm, ⟨43, _⟩ => ⟨S32, .i32⟩
  | .hbm, ⟨44, _⟩ => ⟨S1x1x32, .i32⟩
  | .hbm, ⟨45, _⟩ => ⟨S128x256x32, .i32⟩
  | .hbm, ⟨46, _⟩ => ⟨S128x256x32, .i32⟩
  | .hbm, ⟨47, _⟩ => ⟨S128x256x32, .i1⟩
  | .hbm, ⟨48, _⟩ => ⟨S128x256x32, .f32⟩
  | .hbm, ⟨49, _⟩ => ⟨S16x128x256, .f32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S128x256, .i1⟩
  | .hbm, ⟨57, _⟩ => ⟨S1x128x256, .i1⟩
  | .hbm, ⟨58, _⟩ => ⟨S_, .f32⟩
  | .hbm, ⟨59, _⟩ => ⟨S_, .f32⟩
  | .hbm, ⟨60, _⟩ => ⟨S16x128x256, .i1⟩
  | .hbm, ⟨61, _⟩ => ⟨S16x128x256, .f32⟩
  | .hbm, ⟨62, _⟩ => ⟨S16x128x256, .f32⟩
  | .hbm, ⟨63, _⟩ => ⟨S_, .i32⟩
  | .hbm, ⟨64, _⟩ => ⟨S1x256, .i32⟩
  | .hbm, ⟨65, _⟩ => ⟨S1x256, .i1⟩
  | .hbm, ⟨66, _⟩ => ⟨S1x1x256, .i1⟩
  | .hbm, ⟨67, _⟩ => ⟨S_, .f32⟩
  | .hbm, ⟨68, _⟩ => ⟨S_, .f32⟩
  | .hbm, ⟨69, _⟩ => ⟨S16x128x256, .i1⟩
  | .hbm, ⟨70, _⟩ => ⟨S16x128x256, .f32⟩
  | .hbm, ⟨71, _⟩ => ⟨S16x128x256, .f32⟩
  | .hbm, ⟨72, _⟩ => ⟨S1x16x128x256, .f32⟩
  | .hbm, ⟨73, _⟩ => ⟨S1x16x128x256, .f32⟩
  | .hbm, ⟨74, _⟩ => ⟨S2x16x128x256, .f32⟩
  | .hbm, ⟨75, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S2x16x128x256, .f32⟩
  | .local _ .vmem, ⟨11, _⟩ => ⟨S1x256x1024, .bf16⟩
  | .local _ .vmem, ⟨12, _⟩ => ⟨S1x256x1024, .bf16⟩
  | .local _ .smem, ⟨0, _⟩ => ⟨S16, .f32⟩
  | _, _ => ⟨S8x2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v31 : Index := Scalar.indexCast v18
  let c0_17 : Index := 0#32
  let c0_18 : Index := 0#32
  let c0_19 : Index := 0#32
  ![v31.toNat, 0, 0, 0]
def k0_off2 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v36 : Index := Scalar.indexCast v18
  let c1 : Index := 1#32
  let c0_20 : Index := 0#32
  let c0_21 : Index := 0#32
  ![v36.toNat, 1, 0, 0]
def k0_off3 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v41 : Index := Scalar.indexCast v18
  let c2 : Index := 2#32
  let c0_22 : Index := 0#32
  let c0_23 : Index := 0#32
  ![v41.toNat, 2, 0, 0]
def k0_off4 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v46 : Index := Scalar.indexCast v18
  let c3 : Index := 3#32
  let c0_24 : Index := 0#32
  let c0_25 : Index := 0#32
  ![v46.toNat, 3, 0, 0]
def k0_off5 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v51 : Index := Scalar.indexCast v18
  let c4 : Index := 4#32
  let c0_26 : Index := 0#32
  let c0_27 : Index := 0#32
  ![v51.toNat, 4, 0, 0]
def k0_off6 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v56 : Index := Scalar.indexCast v18
  let c5 : Index := 5#32
  let c0_28 : Index := 0#32
  let c0_29 : Index := 0#32
  ![v56.toNat, 5, 0, 0]
def k0_off7 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v61 : Index := Scalar.indexCast v18
  let c6 : Index := 6#32
  let c0_30 : Index := 0#32
  let c0_31 : Index := 0#32
  ![v61.toNat, 6, 0, 0]
def k0_off8 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v66 : Index := Scalar.indexCast v18
  let c7 : Index := 7#32
  let c0_32 : Index := 0#32
  let c0_33 : Index := 0#32
  ![v66.toNat, 7, 0, 0]
def k0_off9 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v250 : Index := Scalar.indexCast v18
  let c8 : Index := 8#32
  let c0_70 : Index := 0#32
  let c0_71 : Index := 0#32
  ![v250.toNat, 8, 0, 0]
def k0_off10 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v255 : Index := Scalar.indexCast v18
  let c9 : Index := 9#32
  let c0_72 : Index := 0#32
  let c0_73 : Index := 0#32
  ![v255.toNat, 9, 0, 0]
def k0_off11 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v260 : Index := Scalar.indexCast v18
  let c10 : Index := 10#32
  let c0_74 : Index := 0#32
  let c0_75 : Index := 0#32
  ![v260.toNat, 10, 0, 0]
def k0_off12 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v265 : Index := Scalar.indexCast v18
  let c11 : Index := 11#32
  let c0_76 : Index := 0#32
  let c0_77 : Index := 0#32
  ![v265.toNat, 11, 0, 0]
def k0_off13 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v270 : Index := Scalar.indexCast v18
  let c12 : Index := 12#32
  let c0_78 : Index := 0#32
  let c0_79 : Index := 0#32
  ![v270.toNat, 12, 0, 0]
def k0_off14 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v275 : Index := Scalar.indexCast v18
  let c13 : Index := 13#32
  let c0_80 : Index := 0#32
  let c0_81 : Index := 0#32
  ![v275.toNat, 13, 0, 0]
def k0_off15 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v280 : Index := Scalar.indexCast v18
  let c14 : Index := 14#32
  let c0_82 : Index := 0#32
  let c0_83 : Index := 0#32
  ![v280.toNat, 14, 0, 0]
def k0_off16 (i : grid0.Coords) : Fin 4 → Nat :=
  let arg1 : BitVec 32 := BitVec.ofNat 32 (i 1).val
  let c0_i32 : BitVec 32 := 0#32
  let v17 : BitVec 1 := Scalar.cmpi .eq arg1 c0_i32
  let c1_i32 : BitVec 32 := 1#32
  let c0_i32_15 : BitVec 32 := 0#32
  let v18 : BitVec 32 := Scalar.select v17 c1_i32 c0_i32_15
  let v285 : Index := Scalar.indexCast v18
  let c15 : Index := 15#32
  let c0_84 : Index := 0#32
  let c0_85 : Index := 0#32
  ![v285.toNat, 15, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, arg1.toNat, c40_i32.toNat]

def cc0_transform_3 (i : grid0.Coords) : Fin 3 → Nat :=
  let arg0 : BitVec 32 := BitVec.ofNat 32 (i 0).val
  let arg1 : BitVec 32 := BitVec.ofNat 32 (i 1).val
  let c41_i32 : BitVec 32 := 41#32
  let c0_i32 : BitVec 32 := 0#32
  ![arg0.toNat, arg1.toNat, c41_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let c0_i32_0 : BitVec 32 := 0#32
  ![arg0.toNat, v2.toNat, c40_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c41_i32 : BitVec 32 := 41#32
  let c0_i32_0 : BitVec 32 := 0#32
  ![arg0.toNat, v2.toNat, c41_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2048x5376 : Shape := ⟨3, ![8, 2048, 5376]⟩
abbrev S1x16 : Shape := ⟨2, ![1, 16]⟩
abbrev S32x16 : Shape := ⟨2, ![32, 16]⟩
abbrev S8x2048x1024 : Shape := ⟨3, ![8, 2048, 1024]⟩
abbrev S8x2048x16x64 : Shape := ⟨4, ![8, 2048, 16, 64]⟩
abbrev S8x2048x128 : Shape := ⟨3, ![8, 2048, 128]⟩
abbrev S8x2048x2x64 : Shape := ⟨4, ![8, 2048, 2, 64]⟩
abbrev S16 : Shape := ⟨1, ![16]⟩
abbrev S8x16x128x2x8x64 : Shape := ⟨6, ![8, 16, 128, 2, 8, 64]⟩
abbrev S_ : Shape := ⟨0, ![]⟩
abbrev S8x128x2x64 : Shape := ⟨4, ![8, 128, 2, 64]⟩
abbrev S8x2176x2x64 : Shape := ⟨4, ![8, 2176, 2, 64]⟩
abbrev S8x16x128x2x64 : Shape := ⟨5, ![8, 16, 128, 2, 64]⟩
abbrev S8x16x256x2x64 : Shape := ⟨5, ![8, 16, 256, 2, 64]⟩
abbrev S8x16x2x256x128x8 : Shape := ⟨6, ![8, 16, 2, 256, 128, 8]⟩
abbrev S8x16x2x8x128x256 : Shape := ⟨6, ![8, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S1x16x1x1x128x256 : Shape := ⟨6, ![1, 16, 1, 1, 128, 256]⟩
abbrev S1x1x2x8x128x256 : Shape := ⟨6, ![1, 1, 2, 8, 128, 256]⟩
abbrev S1x1x2x8x1x1 : Shape := ⟨6, ![1, 1, 2, 8, 1, 1]⟩
abbrev S8x16x2x8x128x1 : Shape := ⟨6, ![8, 16, 2, 8, 128, 1]⟩
abbrev S8x16x2x8x128x257 : Shape := ⟨6, ![8, 16, 2, 8, 128, 257]⟩
abbrev S8x16x2x8x128 : Shape := ⟨5, ![8, 16, 2, 8, 128]⟩
abbrev S8x16x2x64x8x128 : Shape := ⟨6, ![8, 16, 2, 64, 8, 128]⟩

abbrev nBuf : Space → Nat
  | .hbm => 136
  | .vmem => 0
  | .smem => 0
  | _ => 0

abbrev hbmTy0_0 (i : Nat) : BufTy := match i % 128 with
  | 0 => ⟨S8x2048x5376, .bf16⟩
  | 1 => ⟨S1x16, .f32⟩
  | 2 => ⟨S32x16, .f32⟩
  | 3 => ⟨S8x2048x5376, .f32⟩
  | 4 => ⟨S8x2048x1024, .f32⟩
  | 5 => ⟨S8x2048x16x64, .f32⟩
  | 6 => ⟨S8x2048x128, .f32⟩
  | 7 => ⟨S8x2048x2x64, .f32⟩
  | 8 => ⟨S8x2048x128, .f32⟩
  | 9 => ⟨S8x2048x2x64, .f32⟩
  | 10 => ⟨S16, .f32⟩
  | 11 => ⟨S8x16x128x2x8x64, .f32⟩
  | 12 => ⟨S_, .f32⟩
  | 13 => ⟨S8x128x2x64, .f32⟩
  | 14 => ⟨S8x2176x2x64, .f32⟩
  | 15 => ⟨S8x2048x2x64, .f32⟩
  | 16 => ⟨S8x16x128x2x64, .f32⟩
  | 17 => ⟨S8x16x128x2x64, .f32⟩
  | 18 => ⟨S8x16x256x2x64, .f32⟩
  | 19 => ⟨S8x2176x2x64, .f32⟩
  | 20 => ⟨S8x2048x2x64, .f32⟩
  | 21 => ⟨S8x16x128x2x64, .f32⟩
  | 22 => ⟨S8x16x128x2x64, .f32⟩
  | 23 => ⟨S8x16x256x2x64, .f32⟩
  | 24 => ⟨S8x16x2x256x128x8, .f32⟩
  | 25 => ⟨S8x16x2x8x128x256, .f32⟩
  | 26 => ⟨S_, .f32⟩
  | 27 => ⟨S8x16x2x8x128x256, .f32⟩
  | 28 => ⟨S8x16x2x8x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S128x256, .f32⟩
  | 46 => ⟨S_, .f32⟩
  | 47 => ⟨S128x256, .f32⟩
  | 48 => ⟨S128x256, .f32⟩
  | 49 => ⟨S128x256, .f32⟩
  | 50 => ⟨S_, .f32⟩
  | 51 => ⟨S128x256, .f32⟩
  | 52 => ⟨S128x256, .f32⟩
  | 53 => ⟨S_, .f32⟩
  | 54 => ⟨S128x256, .f32⟩
  | 55 => ⟨S128x256, .f32⟩
  | 56 => ⟨S128x256, .i32⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i1⟩
  | 66 => ⟨S128x256, .i32⟩
  | 67 => ⟨S_, .i32⟩
  | 68 => ⟨S128x256, .i32⟩
  | 69 => ⟨S128x256, .i1⟩
  | 70 => ⟨S_, .i32⟩
  | 71 => ⟨S128x256, .i32⟩
  | 72 => ⟨S128x256, .i32⟩
  | 73 => ⟨S128x256, .i32⟩
  | 74 => ⟨S128x256x1, .i32⟩
  | 75 => ⟨S128x256x16, .f32⟩
  | 76 => ⟨S16x128x256, .f32⟩
  | 77 => ⟨S2x8x128x256, .f32⟩
  | 78 => ⟨S16, .i32⟩
  | 79 => ⟨S16x1x1, .i32⟩
  | 80 => ⟨S_, .i32⟩
  | 81 => ⟨S16x1x1, .i32⟩
  | 82 => ⟨S16x1x1, .i32⟩
  | 83 => ⟨S_, .i32⟩
  | 84 => ⟨S16x1x1, .i32⟩
  | 85 => ⟨S16x1x1, .i32⟩
  | 86 => ⟨S1x1x256, .i32⟩
  | 87 => ⟨S16x1x256, .i32⟩
  | 88 => ⟨S16x1x256, .i32⟩
  | 89 => ⟨S16x1x256, .i32⟩
  | 90 => ⟨S_, .i32⟩
  | 91 => ⟨S128x256, .i32⟩
  | 92 => ⟨S128x256, .i1⟩
  | 93 => ⟨S1x128x256, .i1⟩
  | 94 => ⟨S_, .i32⟩
  | 95 => ⟨S128x256, .i32⟩
  | 96 => ⟨S128x256, .i1⟩
  | 97 => ⟨S1x128x256, .i1⟩
  | 98 => ⟨S1x128x256, .i1⟩
  | 99 => ⟨S_, .i32⟩
  | 100 => ⟨S16x1x256, .i32⟩
  | 101 => ⟨S16x1x256, .i1⟩
  | 102 => ⟨S16x128x256, .i1⟩
  | 103 => ⟨S16x128x256, .i1⟩
  | 104 => ⟨S16x128x256, .i1⟩
  | 105 => ⟨S1x16x1x1x128x256, .i1⟩
  | 106 => ⟨S1x1x2x8x128x256, .f32⟩
  | 107 => ⟨S8x16x2x8x128x256, .f32⟩
  | 108 => ⟨S8x16x2x8x128x256, .f32⟩
  | 109 => ⟨S_, .f32⟩
  | 110 => ⟨S_, .f32⟩
  | 111 => ⟨S8x16x2x8x128x256, .i1⟩
  | 112 => ⟨S8x16x2x8x128x256, .f32⟩
  | 113 => ⟨S8x16x2x8x128x256, .f32⟩
  | 114 => ⟨S1x1x2x8x1x1, .f32⟩
  | 115 => ⟨S8x16x2x8x128x1, .f32⟩
  | 116 => ⟨S8x16x2x8x128x257, .f32⟩
  | 117 => ⟨S_, .f32⟩
  | 118 => ⟨S8x16x2x8x128, .f32⟩
  | 119 => ⟨S_, .f32⟩
  | 120 => ⟨S8x16x2x8x128, .f32⟩
  | 121 => ⟨S8x16x2x8x128, .f32⟩
  | 122 => ⟨S8x16x2x8x128x1, .f32⟩
  | 123 => ⟨S8x16x2x8x128x257, .f32⟩
  | 124 => ⟨S8x16x2x8x128x257, .f32⟩
  | 125 => ⟨S8x16x2x8x128x257, .f32⟩
  | 126 => ⟨S_, .f32⟩
  | 127 => ⟨S8x16x2x8x128, .f32⟩
  | _ => ⟨S8x2048x5376, .bf16⟩

abbrev hbmTy0_1 (i : Nat) : BufTy := match i % 128 with
  | 0 => ⟨S8x16x2x8x128x1, .f32⟩
  | 1 => ⟨S8x16x2x8x128x257, .f32⟩
  | 2 => ⟨S8x16x2x8x128x257, .f32⟩
  | 3 => ⟨S8x16x2x8x128x256, .f32⟩
  | 4 => ⟨S8x16x2x64x8x128, .f32⟩
  | 5 => ⟨S8x16x128x2x8x64, .f32⟩
  | 6 => ⟨S8x2048x1024, .f32⟩
  | 7 => ⟨S8x2048x1024, .bf16⟩
  | _ => ⟨S8x2048x5376, .bf16⟩

abbrev hbmTy (i : Nat) : BufTy := match i / 128 with
  | 0 => hbmTy0_0 i
  | 1 => hbmTy0_1 i
  | _ => ⟨S8x2048x5376, .bf16⟩

abbrev bufTy : (tb : Table) → Fin (tcTables nBuf tb) → BufTy
  | .hbm, ⟨i, _⟩ => hbmTy i
  | _, _ => ⟨S8x2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_1 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_v47 : Ref sig .tc := ⟨.hbm, 59, rfl⟩
abbrev main_c_7 : Ref sig .tc := ⟨.hbm, 60, rfl⟩
abbrev main_v48 : Ref sig .tc := ⟨.hbm, 61, rfl⟩
abbrev main_v49 : Ref sig .tc := ⟨.hbm, 62, rfl⟩
abbrev main_c_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_c_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_11 : Ref sig .tc := ⟨.hbm, 80, rfl⟩
abbrev main_v64 : Ref sig .tc := ⟨.hbm, 81, rfl⟩
abbrev main_v65 : Ref sig .tc := ⟨.hbm, 82, rfl⟩
abbrev main_c_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c_14 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_c_15 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_16 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_cst_18 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩

abbrev nD : Nat := 1
abbrev τ : Topo := Topo.v7x

variable {F : FTy → Type} [FloatOps F]
-- ==== InProjAb.lean ====
abbrev S8x2048x2048 : Shape := ⟨3, ![8, 2048, 2048]⟩
abbrev S2048x5376 : Shape := ⟨2, ![2048, 5376]⟩
abbrev S16384x2048 : Shape := ⟨2, ![16384, 2048]⟩
abbrev S16384x5376 : Shape := ⟨2, ![16384, 5376]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048x5376, .bf16⟩
  | .hbm, ⟨2, _⟩ => ⟨S16384x2048, .f32⟩
  | .hbm, ⟨3, _⟩ => ⟨S16384x5376, .bf16⟩
  | .local _ .vmem, ⟨0, _⟩ => ⟨S1024x2048, .f32⟩
  | .local _ .vmem, ⟨1, _⟩ => ⟨S1024x2048, .f32⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjAbRefIdeal.lean ====
abbrev S8x2048x2048 : Shape := ⟨3, ![8, 2048, 2048]⟩
abbrev S2048x5376 : Shape := ⟨2, ![2048, 5376]⟩
abbrev S16384x2048 : Shape := ⟨2, ![16384, 2048]⟩
abbrev S16384x5376 : Shape := ⟨2, ![16384, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x5376, .bf16⟩
  | .hbm, ⟨2, _⟩ => ⟨S16384x2048, .f32⟩
  | .hbm, ⟨3, _⟩ => ⟨S2048x5376, .f32⟩
  | .hbm, ⟨4, _⟩ => ⟨S16384x5376, .f32⟩
  | .hbm, ⟨5, _⟩ => ⟨S16384x5376, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjCd.lean ====
abbrev S16384x2048 : Shape := ⟨2, ![16384, 2048]⟩
abbrev S1x2048x4096 : Shape := ⟨3, ![1, 2048, 4096]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x2048x4096, .f32⟩
  | .hbm, ⟨2, _⟩ => ⟨S2048x4096, .f32⟩
  | .hbm, ⟨3, _⟩ => ⟨S2048x4096, .bf16⟩
  | .hbm, ⟨4, _⟩ => ⟨S16384x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjCdRefIdeal.lean ====
abbrev S16384x2048 : Shape := ⟨2, ![16384, 2048]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x4096, .f32⟩
  | .hbm, ⟨2, _⟩ => ⟨S2048x4096, .f32⟩
  | .hbm, ⟨3, _⟩ => ⟨S16384x4096, .f32⟩
  | .hbm, ⟨4, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CastRotate.lean ====
abbrev S1x2048x5376 : Shape := ⟨3, ![1, 2048, 5376]⟩
abbrev S2048x5376 : Shape := ⟨2, ![2048, 5376]⟩
abbrev S1x2048x256 : Shape := ⟨3, ![1, 2048, 256]⟩
abbrev S2048x256 : Shape := ⟨2, ![2048, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x5376, .f32⟩
  | .hbm, ⟨1, _⟩ => ⟨S2048x5376, .bf16⟩
  | .local _ .vmem, ⟨0, _⟩ => ⟨S1x2048x256, .f32⟩
  | .local _ .vmem, ⟨1, _⟩ => ⟨S1x2048x256, .f32⟩
  | .local _ .vmem, ⟨2, _⟩ => ⟨S2048x256, .bf16⟩
  | .local _ .vmem, ⟨3, _⟩ => ⟨S2048x256, .bf16⟩
  | _, _ => ⟨S1x2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c5_i32 : BitVec 32 := 5#32
  let v0 : BitVec 32 := Scalar.addi arg0 c5_i32
  let c21_i32 : BitVec 32 := 21#32
  let c0_i32 : BitVec 32 := 0#32
  let v1 : BitVec 1 := Scalar.cmpi .eq c21_i32 c0_i32
  let c1_i32 : BitVec 32 := 1#32
  let v2 : BitVec 32 := Scalar.select v1 c1_i32 c21_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  ![c0_i32_3.toNat, c0_i32_4.toNat, v10.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRotateRefIdeal.lean ====
abbrev S1x2048x5376 : Shape := ⟨3, ![1, 2048, 5376]⟩
abbrev S2048x5376 : Shape := ⟨2, ![2048, 5376]⟩
abbrev S2048x4096 : Shape := ⟨2, ![2048, 4096]⟩
abbrev S2048x1280 : Shape := ⟨2, ![2048, 1280]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x5376, .f32⟩
  | .hbm, ⟨1, _⟩ => ⟨S2048x5376, .f32⟩
  | .hbm, ⟨2, _⟩ => ⟨S2048x4096, .f32⟩
  | .hbm, ⟨3, _⟩ => ⟨S2048x5376, .f32⟩
  | .hbm, ⟨4, _⟩ => ⟨S2048x1280, .f32⟩
  | .hbm, ⟨5, _⟩ => ⟨S2048x5376, .f32⟩
  | .hbm, ⟨6, _⟩ => ⟨S2048x5376, .bf16⟩
  | _, _ => ⟨S1x2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== OutProj.lean ====
abbrev S16384x1024 : Shape := ⟨2, ![16384, 1024]⟩
abbrev S1x2048x2048 : Shape := ⟨3, ![1, 2048, 2048]⟩
abbrev S16384x2048 : Shape := ⟨2, ![16384, 2048]⟩
abbrev S2048 : Shape := ⟨1, ![2048]⟩
abbrev S2048x256 : Shape := ⟨2, ![2048, 256]⟩
abbrev S1x128 : Shape := ⟨2, ![1, 128]⟩
abbrev S2048x2048 : Shape := ⟨2, ![2048, 2048]⟩
abbrev S1x2048 : Shape := ⟨2, ![1, 2048]⟩
abbrev S16384x128 : Shape := ⟨2, ![16384, 128]⟩
abbrev S131072x128 : Shape := ⟨2, ![131072, 128]⟩
abbrev S512x1024 : Shape := ⟨2, ![512, 1024]⟩
abbrev S512x2048 : Shape := ⟨2, ![512, 2048]⟩
abbrev S512x128 : Shape := ⟨2, ![512, 128]⟩
abbrev S4096x128 : Shape := ⟨2, ![4096, 128]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1024x128 : Shape := ⟨2, ![1024, 128]⟩
abbrev S128x256 : Shape := ⟨2, ![128, 256]⟩
abbrev S2048x128 : Shape := ⟨2, ![2048, 128]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S2048x256, .bf16⟩
  | .hbm, ⟨7, _⟩ => ⟨S1x128, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x128, .i32⟩
  | .hbm, ⟨14, _⟩ => ⟨S16384x128, .f32⟩
  | .hbm, ⟨15, _⟩ => ⟨S131072x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x128, .i32⟩
  | .local _ .vmem, ⟨14, _⟩ => ⟨S512x128, .i32⟩
  | .local _ .vmem, ⟨15, _⟩ => ⟨S512x128, .f32⟩
  | .local _ .vmem, ⟨16, _⟩ => ⟨S512x128, .f32⟩
  | .local _ .vmem, ⟨17, _⟩ => ⟨S4096x128, .i32⟩
  | .local _ .vmem, ⟨18, _⟩ => ⟨S4096x128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2048 : Shape := ⟨1, ![2048]⟩
abbrev S2048x256 : Shape := ⟨2, ![2048, 256]⟩
abbrev S1x128 : Shape := ⟨2, ![1, 128]⟩
abbrev S2048x2048 : Shape := ⟨2, ![2048, 2048]⟩
abbrev S1x2048 : Shape := ⟨2, ![1, 2048]⟩
abbrev S16384x128 : Shape := ⟨2, ![16384, 128]⟩
abbrev S131072x2x128 : Shape := ⟨3, ![131072, 2, 128]⟩
abbrev S131072x1x128 : Shape := ⟨3, ![131072, 1, 128]⟩
abbrev S131072x128 : Shape := ⟨2, ![131072, 128]⟩
abbrev S512x1024 : Shape := ⟨2, ![512, 1024]⟩
abbrev S512x2048 : Shape := ⟨2, ![512, 2048]⟩
abbrev S512x128 : Shape := ⟨2, ![512, 128]⟩
abbrev S4096x128 : Shape := ⟨2, ![4096, 128]⟩
abbrev S4096x2x128 : Shape := ⟨3, ![4096, 2, 128]⟩
abbrev S4096x1x128 : Shape := ⟨3, ![4096, 1, 128]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1024x2x128 : Shape := ⟨3, ![1024, 2, 128]⟩
abbrev S128x2x128 : Shape := ⟨3, ![128, 2, 128]⟩
abbrev S128x1x128 : Shape := ⟨3, ![128, 1, 128]⟩
abbrev S128x256 : Shape := ⟨2, ![128, 256]⟩
abbrev S2048x128 : Shape := ⟨2, ![2048, 128]⟩

abbrev nBuf : Space → Nat
  | .hbm => 16
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S2048x256, .bf16⟩
  | .hbm, ⟨7, _⟩ => ⟨S1x128, .f32⟩
  | .hbm, ⟨8, _⟩ => ⟨S2048x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x128, .i32⟩
  | .hbm, ⟨14, _⟩ => ⟨S16384x128, .f32⟩
  | .hbm, ⟨15, _⟩ => ⟨S131072x2x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x128, .i32⟩
  | .local _ .vmem, ⟨14, _⟩ => ⟨S512x128, .i32⟩
  | .local _ .vmem, ⟨15, _⟩ => ⟨S512x128, .f32⟩
  | .local _ .vmem, ⟨16, _⟩ => ⟨S512x128, .f32⟩
  | .local _ .vmem, ⟨17, _⟩ => ⟨S4096x2x128, .bf16⟩
  | .local _ .vmem, ⟨18, _⟩ => ⟨S4096x2x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjRefIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2048 : Shape := ⟨1, ![2048]⟩
abbrev S2048x256 : Shape := ⟨2, ![2048, 256]⟩
abbrev S1x128 : Shape := ⟨2, ![1, 128]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S2048x256, .bf16⟩
  | .hbm, ⟨7, _⟩ => ⟨S1x128, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Gmlp.lean ====
abbrev S8x2048x4096 : Shape := ⟨3, ![8, 2048, 4096]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S8x2048x1024 : Shape := ⟨3, ![8, 2048, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x4096, .bf16⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1x1024, .f32⟩
  | .hbm, ⟨10, _⟩ => ⟨S1x1024, .f32⟩
  | .hbm, ⟨11, _⟩ => ⟨S128x8, .f32⟩
  | .hbm, ⟨12, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1x512x1024, .bf16⟩
  | .local _ .vmem, ⟨9, _⟩ => ⟨S1x512x1024, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GmlpRefIdeal.lean ====
abbrev S8x2048x4096 : Shape := ⟨3, ![8, 2048, 4096]⟩
abbrev S1x1024 : Shape := ⟨2, ![1, 1024]⟩
abbrev S1x8x128x128 : Shape := ⟨4, ![1, 8, 128, 128]⟩
abbrev S1x8x128 : Shape := ⟨3, ![1, 8, 128]⟩
abbrev S8x2048x1024 : Shape := ⟨3, ![8, 2048, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x16x128x8x128 : Shape := ⟨5, ![8, 16, 128, 8, 128]⟩
abbrev S128x128 : Shape := ⟨2, ![128, 128]⟩
abbrev S1x128x128 : Shape := ⟨3, ![1, 128, 128]⟩
abbrev S8x8x16x128x128 : Shape := ⟨5, ![8, 8, 16, 128, 128]⟩
abbrev S128x8 : Shape := ⟨2, ![128, 8]⟩
abbrev S1x1x128x8x1 : Shape := ⟨5, ![1, 1, 128, 8, 1]⟩

abbrev nBuf : Space → Nat
  | .hbm => 100
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S8x2048x1024, .bf16⟩
  | .hbm, ⟨6, _⟩ => ⟨S8x2048x1024, .f32⟩
  | .hbm, ⟨7, _⟩ => ⟨S8x2048x1024, .bf16⟩
  | .hbm, ⟨8, _⟩ => ⟨S8x2048x1024, .f32⟩
  | .hbm, ⟨9, _⟩ => ⟨S1024, .f32⟩
  | .hbm, ⟨10, _⟩ => ⟨S1024, .f32⟩
  | .hbm, ⟨11, _⟩ => ⟨S8x128x128, .f32⟩
  | .hbm, ⟨12, _⟩ => ⟨S8x128, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S_, .f32⟩
  | .hbm, ⟨57, _⟩ => ⟨S8x2048, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1x1x1024, .f32⟩
  | .hbm, ⟨71, _⟩ => ⟨S8x2048x1024, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S8x16x128x8x128, .f32⟩
  | .hbm, ⟨77, _⟩ => ⟨S_, .f32⟩
  | .hbm, ⟨78, _⟩ => ⟨S128x128, .f32⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .f32⟩
  | .hbm, ⟨86, _⟩ => ⟨S128x128, .f32⟩
  | .hbm, ⟨87, _⟩ => ⟨S128x128, .f32⟩
  | .hbm, ⟨88, _⟩ => ⟨S1x128x128, .f32⟩
  | .hbm, ⟨89, _⟩ => ⟨S8x128x128, .f32⟩
  | .hbm, ⟨90, _⟩ => ⟨S8x128x128, .f32⟩
  | .hbm, ⟨91, _⟩ => ⟨S8x8x16x128x128, .f32⟩
  | .hbm, ⟨92, _⟩ => ⟨S8x16x128x8x128, .f32⟩
  | .hbm, ⟨93, _⟩ => ⟨S128x8, .f32⟩
  | .hbm, ⟨94, _⟩ => ⟨S1x1x128x8x1, .f32⟩
  | .hbm, ⟨95, _⟩ => ⟨S8x16x128x8x128, .f32⟩
  | .hbm, ⟨96, _⟩ => ⟨S8x16x128x8x128, .f32⟩
  | .hbm, ⟨97, _⟩ => ⟨S8x2048x1024, .f32⟩
  | .hbm, ⟨98, _⟩ => ⟨S8x2048x1024, .f32⟩
  | .hbm, ⟨99, _⟩ => ⟨S8x2048x1024, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_cst : Ref sig .tc := ⟨.hbm, 85, rfl⟩
abbrev main_call0_v5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Proof.Frames.lean ====
/- The frames of the attention: both launches and the reference run to the end and keep their arguments. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import Idealize.ShloMosaic.Lib.Claim

@[expose] public section

noncomputable section

namespace Cert.AttentionFrames

open Idealize.ShloMosaic Idealize.SL.Sem

/-- The reference runs to the end, faults nowhere, and keeps its arguments. -/
theorem reference_frame : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.AttentionFrames

end
-- ==== Proof.ProjAb.lean ====
/-
  The first half's input projection (`InProjAb`): the kernel multiplies row blocks of the activations with column blocks
  of the weight, keeping in a scratch array a rounded copy of the row block that the first column step makes. Over the
  extended reals rounding is the identity, so every element of the result is the whole contraction over the 2048 input
  columns, which is the reference's product.
-/
module

public import proofs.«01_k».proof.Defs
public import proofs.«01_k».proof.Proof.Gen.InProjAbIdeal.Value
public import proofs.«01_k».proof.Proof.Gen.InProjAbRefIdeal.Read
public import Idealize.ShloMosaic.Lib.Pipeline.Value
public import Idealize.ShloMosaic.Lib.Pointwise
public import Idealize.ShloMosaic.Lib.Quiescent
public import Idealize.ShloMosaic.Lib.Claim
public import Idealize.ShloMosaic.Lib.StableHlo.ReadAt

@[expose] public section

noncomputable section

open Idealize.ShloMosaic Idealize.ShloMosaic.TcCoe Idealize.SL.Sem
open Idealize.ShloMosaic.Pipeline (Dat)

namespace Cert.InProjAbIdeal.Product

open Cert.InProjAbIdeal Cert.InProjAbIdeal.Gen

/-- The origin of a matrix. -/
theorem origin : (![0, 0] : Fin 2 → Nat) = fun _ => 0 := funext fun a => by fin_cases a <;> rfl

section Body

variable {F : FTy → Type} [FloatOps F]

variable (c : Dev nD) (i : grid0.Coords) (a2 : Memref sig .tc .vmem S1024x2048 .f32) (h2 : a2.IsWhole)
  (a3 : Memref sig .tc .vmem S2048x1792 .bf16) (h3 : a3.IsWhole) (a4 : Memref sig .tc .vmem S1024x1792 .bf16) (h4 : a4.IsWhole)
  (a5 : Memref sig .tc .vmem S1024x2048 .bf16) (h5 : a5.IsWhole)

/-- The first column step leaves in the scratch array the rounded row block. -/
theorem scratch_first (hc : cond0_0 i) (x : Vec F S1024x2048 .f32) (w : Vec F S2048x1792 .bf16) :
    sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h2.read_unread, View.ld_unit_zero (S := S1024x2048) origin]

/-- The first column step's result block is the product of the rounded row block with the weight block. -/
theorem block_first (hc : cond0_0 i) (x : Vec F S1024x2048 .f32) (w : Vec F S2048x1792 .bf16) :
    out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S1024x2048) _ origin]
  simp only [View.readAt_eq_ld, h2.read_unread, h3.read_unread, View.ld_unit_zero (S := S1024x2048) origin,
    View.ld_unit_zero (S := S2048x1792) origin]

/-- A later column step's result block is the product of what the scratch array holds with the weight block. -/
theorem block_later (hc : ¬cond0_0 i) (x : Vec F S1024x2048 .f32) (w : Vec F S2048x1792 .bf16) (s : Vec F S1024x2048 .bf16) :
    out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero origin]
  simp only [View.readAt_eq_ld, h3.read_unread, h5.read_unread, View.ld_unit_zero (S := S1024x2048) origin,
    View.ld_unit_zero (S := S2048x1792) origin]

end Body

variable (m : (ℓ : Loc nD τ sig) → Buf (Elt Ideal) ℓ) (ρ : Dev nD → PrngReg)

/-- Every element of a step's block is the contraction of a row of the row block with a column of the weight block. -/
theorem block_apply (x : Vec Ideal S1024x2048 .f32) (w : Vec Ideal S2048x1792 .bf16) (r : Fin 1024) (l : Fin 1792) :
    k0_pay2 (F := Ideal) (k0_pay1 x) w (ix2 r l) = ∑ k : Fin 2048, x (ix2 r k) * w (ix2 k l) := by
  pointwise [k0_pay2, k0_pay1]

/-- The block indices of the two input windows and of the result's, at every grid point. -/
theorem index_facts : ∀ t : Fin cfg0.N, win0_0.index t (0 : Fin 2) = t.val / 3 ∧ win0_0.index t (1 : Fin 2) = 0
    ∧ win0_1.index t (0 : Fin 2) = 0 ∧ win0_1.index t (1 : Fin 2) = t.val % 3 :=
  (by decide +kernel : ∀ t : Fin grid0.N, _)

/-- The activations' array, as the kernel's grid finds it. -/
abbrev acts (c : Dev nD) : Vec Ideal S8x2048x2048 .f32 := m ((c : Thread nD τ).loc main_arg0)
/-- The weight, as launched. -/
abbrev weight (c : Dev nD) : Vec Ideal S2048x5376 .bf16 := m ((c : Thread nD τ).loc main_arg1)

/-- The token array the grid finds is the activations as launched, its two outer axes joined. -/
theorem acts_entry (c : Dev nD) (i : Fin 16384) (k : Fin 2048) :
    (V m c main_v0 : Vec Ideal S16384x2048 .f32) (ix2 i k) = acts m c (ix3 ⟨i.val / 2048, by omega⟩ ⟨i.val % 2048, by omega⟩ k) := by
  unfold V
  after_reads_at

/-- A row block at an index is the activations' element below it. -/
theorem rows_apply (c : Dev nD) (t : Fin cfg0.N) (r : Fin 1024) (k : Fin 2048) (i : Fin 16384) (hi : i.val = t.val / 3 * 1024 + r.val) :
    (iblk m c 0 t : Vec Ideal S1024x2048 .f32) (ix2 r k) = acts m c (ix3 ⟨i.val / 2048, by omega⟩ ⟨i.val % 2048, by omega⟩ k) := by
  obtain ⟨e0, e1, -, -⟩ := index_facts t
  rw [← acts_entry]
  unfold iblk
  rw [View.read_apply]
  refine congrArg (V m c main_v0) (funext fun a => Fin.ext ?_)
  match a with
  | ⟨0, _⟩ => show win0_0.index t 0 * 1024 + 1 * r.val = i.val; rw [e0, hi]; omega
  | ⟨1, _⟩ => show win0_0.index t 1 * 2048 + 1 * k.val = k.val; rw [e1]; omega

/-- A column block at an index is the weight's element below it. -/
theorem cols_apply (c : Dev nD) (t : Fin cfg0.N) (k : Fin 2048) (l : Fin 1792) (j : Fin 5376) (hj : j.val = t.val % 3 * 1792 + l.val) :
    (iblk m c 1 t : Vec Ideal S2048x1792 .bf16) (ix2 k l) = weight m c (ix2 k j) := by
  obtain ⟨-, -, e0, e1⟩ := index_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * k.val = k.val; rw [e0]; omega
  | ⟨1, _⟩ => show win0_1.index t 1 * 1792 + 1 * l.val = j.val; rw [e1, hj]; omega

/-- Two grid points of one row step see the same row block. -/
theorem rows_same (c : Dev nD) (t t' : Fin cfg0.N) (h : t.val / 3 = t'.val / 3) :
    (iblk m c 0 t : Vec Ideal S1024x2048 .f32) = iblk m c 0 t' := by
  have hN : cfg0.N = 48 := N_0
  funext j
  rw [eq_ix2 j]
  have hj : (j 0).val < 1024 := (j 0).isLt
  have ht := t.isLt
  rw [rows_apply m c t (j 0) (j 1) ⟨t.val / 3 * 1024 + (j 0).val, by omega⟩ rfl,
    rows_apply m c t' (j 0) (j 1) ⟨t.val / 3 * 1024 + (j 0).val, by omega⟩ (by rw [← h])]

/-- After every grid point the scratch array holds the rounded row block of that point's row step, and the result's block
    is its product with the point's weight block: by induction on the point. -/
theorem state_eq (c : Dev nD) : ∀ (n : ℕ) (h : n < cfg0.N),
    outsAt0 m c n h = (k0_pay2 (k0_pay1 (iblk m c 0 ⟨n, h⟩)) (iblk m c 1 ⟨n, h⟩), k0_pay1 (iblk m c 0 ⟨n, h⟩))
  | 0, h => (outsAt0_A m c ⟨0, h⟩ rfl).trans (by rw [block_first, scratch_first])
  | n + 1, h => by
    by_cases h0 : (n + 1) % 3 = 0
    · exact (outsAt0_A m c ⟨n + 1, h⟩ h0).trans (by rw [block_first, scratch_first])
    · refine (outsAt0_B m c ⟨n + 1, h⟩ h0).trans ?_
      rw [block_later]
      unfold sout0_B_0
      show (k0_pay2 (outsAt0 m c n _).2 _, (outsAt0 m c n _).2) = _
      rw [state_eq c n, rows_same m c ⟨n, _⟩ ⟨n + 1, h⟩ (by dsimp only; omega)]

/-- Row `i` of the activations, as the launch gives them: `i`'s batch and position, contracted with column `j` of the weight. -/
def entry (c : Dev nD) (i : Fin 16384) (j : Fin 5376) : EReal :=
  ∑ k : Fin 2048, acts m c (ix3 ⟨i.val / 2048, by omega⟩ ⟨i.val % 2048, by omega⟩ k) * weight m c (ix2 k j)

/-- The product the result array is shown to hold. -/
abbrev product (c : Dev nD) : Vec Ideal S16384x5376 .bf16 := fun i => entry m c (i 0) (i 1)

/-- A grid point's block at an index is the product's entry below it. -/
theorem block_entry (c : Dev nD) (t : Fin cfg0.N) (r : Fin 1024) (l : Fin 1792) (i : Fin 16384) (j : Fin 5376)
    (hi : i.val = t.val / 3 * 1024 + r.val) (hj : j.val = t.val % 3 * 1792 + l.val) :
    k0_pay2 (F := Ideal) (k0_pay1 (iblk m c 0 t)) (iblk m c 1 t) (ix2 r l) = entry m c i j := by
  rw [block_apply]
  exact Finset.sum_congr rfl fun k _ => by rw [rows_apply m c t r k i hi, cols_apply m c t k l j hj]

/-- The row of the result under a block's row. -/
theorem under_row (t : Fin cfg0.N) (y : S1024x1792.Idx) :
    (((cfg0.win 2).blk t).view.emb y 0).val = t.val / 3 * 1024 + (y 0).val := by
  obtain ⟨-, -, -, e1, e2⟩ := Value.idx_facts2 t
  have hN : cfg0.N = 48 := N_0
  have ht := t.isLt
  show win0_2.index t (0 : Fin 2) * 1024 + 1 * (y 0).val = _
  dsimp only
  omega

/-- The column of the result under a block's column. -/
theorem under_col (t : Fin cfg0.N) (y : S1024x1792.Idx) :
    (((cfg0.win 2).blk t).view.emb y 1).val = t.val % 3 * 1792 + (y 1).val := by
  obtain ⟨-, -, -, e1, e2⟩ := Value.idx_facts2 t
  have hN : cfg0.N = 48 := N_0
  have ht := t.isLt
  show win0_2.index t (1 : Fin 2) * 1792 + 1 * (y 1).val = _
  dsimp only
  omega

/-- What a grid point writes back is its block of the product. -/
theorem flushed_eq (c : Dev nD) (t : Fin cfg0.N) :
    (dats m 0 c).flushed 2 t = ((cfg0.win 2).blk t).view.read (Elt Ideal) (product m c) := by
  rw [Value.flushed2, state_eq]
  funext y
  exact (congrArg (k0_pay2 (F := Ideal) (k0_pay1 (iblk m c 0 t)) (iblk m c 1 t)) (eq_ix2 (y : S1024x1792.Idx))).trans
    (block_entry m c t (y 0) (y 1) (((cfg0.win 2).blk t).view.emb y 0) (((cfg0.win 2).blk t).view.emb y 1)
      (under_row t y) (under_col t y))

/-- So the result array ends holding the product: its blocks tile it. -/
theorem final_eq (c : Dev nD) : (dats m 0 c).arrAt 2 cfg0.N = product m c :=
  (dats m 0 c).arrAt_eq_of_cover 2 _ (fun t _ => flushed_eq m c t) fun i => (Value.covered_iff2 i).2
    ⟨Nat.zero_le _, (i 0).isLt, Nat.zero_le _, (i 1).isLt⟩

/-- The run: the result array at the product, the arguments unchanged. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.InProjAbIdeal.Product

namespace Cert.ProjAbClaims

/-- The reference's term, at an index, is the same contraction. -/
theorem reference_apply (x : Vec Ideal Cert.InProjAbRefIdeal.S8x2048x2048 .f32) (w : Vec Ideal Cert.InProjAbRefIdeal.S2048x5376 .bf16) (i : Fin 16384) (j : Fin 5376) :
    Cert.InProjAbRefIdeal.Read.val_main_v3 (F := Ideal) x w (ix2 i j)
      = ∑ k : Fin 2048, x (ix3 ⟨i.val / 2048, by omega⟩ ⟨i.val % 2048, by omega⟩ k) * w (ix2 k j) := by
  pointwise [Cert.InProjAbRefIdeal.Read.val_main_v3, Cert.InProjAbRefIdeal.Read.val_main_v2, Cert.InProjAbRefIdeal.Read.val_main_v1, Cert.InProjAbRefIdeal.Read.val_main_v0]

/-- The projection kernel and the reference's product end with equal results over the extended reals. -/
theorem algebraic : Cert.algebraic_InProjAbIdeal_InProjAbRefIdeal := by
  intro m g m' g' _ hagree
  refine ⟨Cert.InProjAbIdeal.Product.product m, Cert.InProjAbIdeal.Product.run m g, ?_⟩
  refine (θ_run _ _ _).mono (fun r h c => ⟨(h c).1.trans ?_, (h c).2⟩) (Cert.InProjAbRefIdeal.Value.run m' g')
  obtain ⟨e0, e1⟩ := hagree c
  rw [e0, e1]
  funext i
  rw [eq_ix2 i]
  exact reference_apply _ _ _ _

/-- The reference runs to the end, faults nowhere, and keeps its arguments. -/
theorem reference_frame : Cert.quiescent_InProjAbRefIdeal := fun m g _ =>
  (θ_run _ _ _).mono (fun r h => ⟨fun c => (h c).2, sem_eq_zero_of_no_sems (by decide) r.2⟩)
    (Cert.InProjAbRefIdeal.Value.run (F := Ideal) m g)

end Cert.ProjAbClaims

end
-- ==== Proof.ProjCd.lean ====
/-
  The second half's input projection (`InProjCd`): the kernel multiplies row blocks of the activations with column blocks
  of the weight, keeping in a scratch array a rounded copy of the row block that the first column step makes. Over the
  extended reals rounding is the identity, so every element of the result is the whole contraction over the 2048 input
  columns, which is the reference's product.
-/
module

public import proofs.«01_k».proof.Defs
public import proofs.«01_k».proof.Proof.Gen.InProjCdIdeal.Value
public import proofs.«01_k».proof.Proof.Gen.InProjCdRefIdeal.Read
public import Idealize.ShloMosaic.Lib.Pipeline.Value
public import Idealize.ShloMosaic.Lib.Pointwise
public import Idealize.ShloMosaic.Lib.Quiescent
public import Idealize.ShloMosaic.Lib.Claim
public import Idealize.ShloMosaic.Lib.StableHlo.ReadAt

@[expose] public section

noncomputable section

open Idealize.ShloMosaic Idealize.ShloMosaic.TcCoe Idealize.SL.Sem
open Idealize.ShloMosaic.Pipeline (Dat)

namespace Cert.InProjCdIdeal.Product

open Cert.InProjCdIdeal Cert.InProjCdIdeal.Gen

/-- The origin of a matrix. -/
theorem origin : (![0, 0] : Fin 2 → Nat) = fun _ => 0 := funext fun a => by fin_cases a <;> rfl

section Body

variable {F : FTy → Type} [FloatOps F]

variable (c : Dev nD) (i : grid0.Coords) (a2 : Memref sig .tc .vmem S1024x2048 .f32) (h2 : a2.IsWhole)
  (a3 : Memref sig .tc .vmem S2048x2048 .bf16) (h3 : a3.IsWhole) (a4 : Memref sig .tc .vmem S1024x2048 .bf16) (h4 : a4.IsWhole)
  (a5 : Memref sig .tc .vmem S1024x2048 .bf16) (h5 : a5.IsWhole)

/-- The first column step leaves in the scratch array the rounded row block. -/
theorem scratch_first (hc : cond0_0 i) (x : Vec F S1024x2048 .f32) (w : Vec F S2048x2048 .bf16) :
    sout0_A_0 c i a2 h2 a3 h3 a4 h4 a5 h5 hc x w = k0_pay1 x := by
  unfold sout0_A_0
  rw [View.read_writes_eq_canon _ _ _ (scover0_A_0 c i a2 h2 a3 h3 a4 h4 a5 h5 hc x w)]
  unfold kernelRun0_A
  dsimp only
  sl_unfold_words
  rw [View.canon_unit_zero origin]
  simp only [View.readAt_eq_ld, h2.read_unread, View.ld_unit_zero (S := S1024x2048) origin]

/-- The first column step's result block is the product of the rounded row block with the weight block. -/
theorem block_first (hc : cond0_0 i) (x : Vec F S1024x2048 .f32) (w : Vec F S2048x2048 .bf16) :
    out0_A_2 c i a2 h2 a3 h3 a4 h4 a5 h5 hc x w = k0_pay2 (k0_pay1 x) w := by
  unfold out0_A_2
  rw [View.read_writes_eq_canon _ _ _ (cover0_A_2 c i a2 h2 a3 h3 a4 h4 a5 h5 hc x w)]
  unfold kernelRun0_A
  dsimp only
  sl_unfold_words
  rw [View.canon_unit_zero origin, View.readCov_unit_zero (S := S1024x2048) _ origin]
  simp only [View.readAt_eq_ld, h2.read_unread, h3.read_unread, View.ld_unit_zero (S := S1024x2048) origin,
    View.ld_unit_zero (S := S2048x2048) origin]

/-- A later column step's result block is the product of what the scratch array holds with the weight block. -/
theorem block_later (hc : ¬cond0_0 i) (x : Vec F S1024x2048 .f32) (w : Vec F S2048x2048 .bf16) (s : Vec F S1024x2048 .bf16) :
    out0_B_2 c i a2 h2 a3 h3 a4 h4 a5 h5 hc x w s = k0_pay2 s w := by
  unfold out0_B_2
  rw [View.read_writes_eq_canon _ _ _ (cover0_B_2 c i a2 h2 a3 h3 a4 h4 a5 h5 hc x w s)]
  unfold kernelRun0_B
  dsimp only
  sl_unfold_words
  rw [View.canon_unit_zero origin]
  simp only [View.readAt_eq_ld, h3.read_unread, h5.read_unread, View.ld_unit_zero (S := S1024x2048) origin,
    View.ld_unit_zero (S := S2048x2048) origin]

end Body

variable (m : (ℓ : Loc nD τ sig) → Buf (Elt Ideal) ℓ) (ρ : Dev nD → PrngReg)

/-- Every element of a step's block is the contraction of a row of the row block with a column of the weight block. -/
theorem block_apply (x : Vec Ideal S1024x2048 .f32) (w : Vec Ideal S2048x2048 .bf16) (r : Fin 1024) (l : Fin 2048) :
    k0_pay2 (F := Ideal) (k0_pay1 x) w (ix2 r l) = ∑ k : Fin 2048, x (ix2 r k) * w (ix2 k l) := by
  pointwise [k0_pay2, k0_pay1]

/-- The block indices of the two input windows and of the result's, at every grid point. -/
theorem index_facts : ∀ t : Fin cfg0.N, win0_0.index t (0 : Fin 2) = t.val / 2 ∧ win0_0.index t (1 : Fin 2) = 0
    ∧ win0_1.index t (0 : Fin 2) = 0 ∧ win0_1.index t (1 : Fin 2) = t.val % 2 :=
  (by decide +kernel : ∀ t : Fin grid0.N, _)

/-- The activations' array, as the kernel's grid finds it. -/
abbrev acts (c : Dev nD) : Vec Ideal S16384x2048 .f32 := m ((c : Thread nD τ).loc main_arg0)
/-- The weight, as launched. -/
abbrev weight (c : Dev nD) : Vec Ideal S1x2048x4096 .f32 := m ((c : Thread nD τ).loc main_arg1)

/-- A row block at an index is the activations' element below it. -/
theorem rows_apply (c : Dev nD) (t : Fin cfg0.N) (r : Fin 1024) (k : Fin 2048) (i : Fin 16384) (hi : i.val = t.val / 2 * 1024 + r.val) :
    (iblk m c 0 t : Vec Ideal S1024x2048 .f32) (ix2 r k) = acts m c (ix2 i k) := by
  obtain ⟨e0, e1, -, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = i.val; rw [e0, hi]; omega
  | ⟨1, _⟩ => show win0_0.index t 1 * 2048 + 1 * k.val = k.val; rw [e1]; omega

/-- The rounded weight the grid finds is the weight as launched, its unit axis dropped. -/
theorem weight_entry (c : Dev nD) (k : Fin 2048) (l : Fin 4096) :
    (V m c main_v1 : Vec Ideal S2048x4096 .bf16) (ix2 k l) = weight m c (ix3 0 k l) := by
  unfold V
  after_reads_at

/-- A column block at an index is the weight's element below it. -/
theorem cols_apply (c : Dev nD) (t : Fin cfg0.N) (k : Fin 2048) (l : Fin 2048) (j : Fin 4096) (hj : j.val = t.val % 2 * 2048 + l.val) :
    (iblk m c 1 t : Vec Ideal S2048x2048 .bf16) (ix2 k l) = weight m c (ix3 0 k j) := by
  obtain ⟨-, -, e0, e1⟩ := index_facts t
  rw [← weight_entry]
  unfold iblk
  rw [View.read_apply]
  refine congrArg (V m c main_v1) (funext fun a => Fin.ext ?_)
  match a with
  | ⟨0, _⟩ => show win0_1.index t 0 * 2048 + 1 * k.val = k.val; rw [e0]; omega
  | ⟨1, _⟩ => show win0_1.index t 1 * 2048 + 1 * l.val = j.val; rw [e1, hj]; omega

/-- Two grid points of one row step see the same row block. -/
theorem rows_same (c : Dev nD) (t t' : Fin cfg0.N) (h : t.val / 2 = t'.val / 2) :
    (iblk m c 0 t : Vec Ideal S1024x2048 .f32) = iblk m c 0 t' := by
  have hN : cfg0.N = 32 := N_0
  funext j
  rw [eq_ix2 j]
  have hj : (j 0).val < 1024 := (j 0).isLt
  have ht := t.isLt
  rw [rows_apply m c t (j 0) (j 1) ⟨t.val / 2 * 1024 + (j 0).val, by omega⟩ rfl,
    rows_apply m c t' (j 0) (j 1) ⟨t.val / 2 * 1024 + (j 0).val, by omega⟩ (by rw [← h])]

/-- After every grid point the scratch array holds the rounded row block of that point's row step, and the result's block
    is its product with the point's weight block: by induction on the point. -/
theorem state_eq (c : Dev nD) : ∀ (n : ℕ) (h : n < cfg0.N),
    outsAt0 m c n h = (k0_pay2 (k0_pay1 (iblk m c 0 ⟨n, h⟩)) (iblk m c 1 ⟨n, h⟩), k0_pay1 (iblk m c 0 ⟨n, h⟩))
  | 0, h => (outsAt0_A m c ⟨0, h⟩ rfl).trans (by rw [block_first, scratch_first])
  | n + 1, h => by
    by_cases h0 : (n + 1) % 2 = 0
    · exact (outsAt0_A m c ⟨n + 1, h⟩ h0).trans (by rw [block_first, scratch_first])
    · refine (outsAt0_B m c ⟨n + 1, h⟩ h0).trans ?_
      rw [block_later]
      unfold sout0_B_0
      show (k0_pay2 (outsAt0 m c n _).2 _, (outsAt0 m c n _).2) = _
      rw [state_eq c n, rows_same m c ⟨n, _⟩ ⟨n + 1, h⟩ (by dsimp only; omega)]

/-- The product the result array is shown to hold. -/
abbrev product (c : Dev nD) : Vec Ideal S16384x4096 .bf16 := fun i =>
  ∑ k : Fin 2048, acts m c (ix2 (i 0) k) * weight m c (ix3 0 k (i 1))

/-- What a grid point writes back is its block of the product. -/
theorem flushed_eq (c : Dev nD) (t : Fin cfg0.N) :
    (dats m 0 c).flushed 2 t = ((cfg0.win 2).blk t).view.read (Elt Ideal) (product m c) := by
  rw [Value.flushed2, state_eq]
  obtain ⟨-, -, -, e1, e2⟩ := Value.idx_facts2 t
  have hN : cfg0.N = 32 := N_0
  have ht := t.isLt
  funext y
  have hy0 : (y 0).val < 1024 := (y 0).isLt
  have hy1 : (y 1).val < 2048 := (y 1).isLt
  show k0_pay2 (F := Ideal) (k0_pay1 (iblk m c 0 t)) (iblk m c 1 t) (ix2 ⟨(y 0).val, hy0⟩ ⟨(y 1).val, hy1⟩)
    = product m c (((cfg0.win 2).blk t).view.emb y)
  rw [block_apply]
  refine Finset.sum_congr rfl fun k _ => ?_
  rw [rows_apply m c t ⟨(y 0).val, hy0⟩ k (((cfg0.win 2).blk t).view.emb y 0)
      (by show win0_2.index t (0 : Fin 2) * 1024 + 1 * (y 0).val = _; dsimp only; omega),
    cols_apply m c t k ⟨(y 1).val, hy1⟩ (((cfg0.win 2).blk t).view.emb y 1)
      (by show win0_2.index t (1 : Fin 2) * 2048 + 1 * (y 1).val = _; dsimp only; omega)]

/-- So the result array ends holding the product: its blocks tile it. -/
theorem final_eq (c : Dev nD) : (dats m 0 c).arrAt 2 cfg0.N = product m c :=
  (dats m 0 c).arrAt_eq_of_cover 2 _ (fun t _ => flushed_eq m c t) fun i => (Value.covered_iff2 i).2
    ⟨Nat.zero_le _, (i 0).isLt, Nat.zero_le _, (i 1).isLt⟩

/-- The run: the result array at the product, the arguments unchanged. -/
theorem run : θ_run defs (onTc (τ := τ) (main (F := Ideal))) ⟨m, fun _ => 0, ρ⟩ fun r => ∀ c : Dev nD,
      r.2.mem ((c : Thread nD τ).loc main_v2) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_eq m c), (h c).2⟩) (Value.run_blocks m ρ)

end Cert.InProjCdIdeal.Product

namespace Cert.ProjCdClaims

/-- The reference's term, at an index, is the same contraction. -/
theorem reference_apply (x : Vec Ideal Cert.InProjCdRefIdeal.S16384x2048 .f32) (w : Vec Ideal Cert.InProjCdRefIdeal.S1x2048x4096 .f32) (i : Fin 16384) (j : Fin 4096) :
    Cert.InProjCdRefIdeal.Read.val_main_v2 (F := Ideal) x w (ix2 i j)
      = ∑ k : Fin 2048, x (ix2 i k) * w (ix3 0 k j) := by
  pointwise [Cert.InProjCdRefIdeal.Read.val_main_v2, Cert.InProjCdRefIdeal.Read.val_main_v1, Cert.InProjCdRefIdeal.Read.val_main_v0]

/-- The projection kernel and the reference's product end with equal results over the extended reals. -/
theorem algebraic : Cert.algebraic_InProjCdIdeal_InProjCdRefIdeal := by
  intro m g m' g' _ hagree
  refine ⟨Cert.InProjCdIdeal.Product.product m, Cert.InProjCdIdeal.Product.run m g, ?_⟩
  refine (θ_run _ _ _).mono (fun r h c => ⟨(h c).1.trans ?_, (h c).2⟩) (Cert.InProjCdRefIdeal.Value.run m' g')
  obtain ⟨e0, e1⟩ := hagree c
  rw [e0, e1]
  funext i
  rw [eq_ix2 i]
  exact reference_apply _ _ _ _

/-- The reference runs to the end, faults nowhere, and keeps its arguments. -/
theorem reference_frame : Cert.quiescent_InProjCdRefIdeal := fun m g _ =>
  (θ_run _ _ _).mono (fun r h => ⟨fun c => (h c).2, sem_eq_zero_of_no_sems (by decide) r.2⟩)
    (Cert.InProjCdRefIdeal.Value.run (F := Ideal) m g)

end Cert.ProjCdClaims

end
-- ==== Proof.Rotate.lean ====
/- The cast of layer 0's input weights: the launch writes the columns rotated, and so does the reference. -/
module

public import proofs.«01_k».proof.Proof.Gen.CastRotateIdeal.Value
public import proofs.«01_k».proof.Proof.Gen.CastRotateRefIdeal.Read
public import proofs.«01_k».proof.Defs
public import Idealize.ShloMosaic.Lib.Pipeline.Value
public import Idealize.ShloMosaic.Lib.Pointwise
public import Idealize.ShloMosaic.Lib.Quiescent
public import Idealize.ShloMosaic.Lib.Claim

@[expose] public section

noncomputable section

namespace Cert.CastRotateIdeal.Rotated

open Cert.CastRotateIdeal Cert.CastRotateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The origin of a block of two axes. -/
theorem origin2 : (![0, 0] : Fin 2 → ℕ) = fun _ => 0 := by decide

/-- The origin of a block of three axes. -/
theorem origin3 : (![0, 0, 0] : Fin 3 → ℕ) = fun _ => 0 := by decide

/-- The index maps: point `t` reads column block `t + 5` (around the end) and writes column block `t`. -/
theorem index_facts : ∀ t : Fin cfg0.N,
    win0_0.index t (0 : Fin 3) = 0 ∧ win0_0.index t (1 : Fin 3) = 0 ∧ win0_0.index t (2 : Fin 3) = (t.val + 5) % 21
      ∧ win0_1.index t (0 : Fin 2) = 0 ∧ win0_1.index t (1 : Fin 2) = t.val :=
  (by decide +kernel : ∀ t : Fin grid0.N,
    win0_0.index t (0 : Fin 3) = 0 ∧ win0_0.index t (1 : Fin 3) = 0 ∧ win0_0.index t (2 : Fin 3) = (t.val + 5) % 21
      ∧ win0_1.index t (0 : Fin 2) = 0 ∧ win0_1.index t (1 : Fin 2) = t.val)

/-- The weights at launch. -/
abbrev weights (c : Dev nD) : Vec Ideal S1x2048x5376 .f32 := m ((c : Thread nD τ).loc main_arg0)

/-- The rotated weights: column `j` is column `j + 1280`, around the end. -/
abbrev rotated (c : Dev nD) : Vec Ideal S2048x5376 .bf16 := fun i =>
  weights m c (ix3 0 (i 0) ⟨((i 1).val + 1280) % 5376, Nat.mod_lt _ (by decide)⟩)

/-- The body's block at an index: the fetched block there. -/
theorem block_apply (x0 : Vec Ideal S1x2048x256 .f32) (r : Fin 2048) (l : Fin 256) :
    out0_1 (F := Ideal) x0 (ix2 r l) = x0 (ix3 0 r l) := by
  unfold out0_1
  rw [Value.canon1_eq]
  show View.ld x0 r0_0 _ = _
  rw [View.ld_unit_zero (S := S1x2048x256) origin3]
  refine congrArg x0 (funext fun a => Fin.ext ?_)
  match a with
  | ⟨0, _⟩ => rfl
  | ⟨1, _⟩ => rfl
  | ⟨2, _⟩ => rfl

/-- The fetched block at an index, in the launch's weights. -/
theorem fetched_apply (c : Dev nD) (t : Fin cfg0.N) (r : Fin 2048) (l : Fin 256) (j : Fin 5376)
    (hj : j.val = (t.val + 5) % 21 * 256 + l.val) :
    (iblk m c 0 t : Vec Ideal S1x2048x256 .f32) (ix3 0 r l) = weights m c (ix3 0 r j) := by
  obtain ⟨e0, e1, e2, -, -⟩ := index_facts t
  show V m c main_arg0 _ = _
  rw [V_main_arg0]
  refine congrArg (m ((c : Thread nD τ).loc main_arg0)) (funext fun a => Fin.ext ?_)
  match a with
  | ⟨0, _⟩ => show win0_0.index t 0 * 1 + 1 * 0 = 0; rw [e0]
  | ⟨1, _⟩ => show win0_0.index t 1 * 2048 + 1 * r.val = r.val; rw [e1]; omega
  | ⟨2, _⟩ => show win0_0.index t 2 * 256 + 1 * l.val = j.val; rw [e2, hj]; omega

/-- What a grid point writes back is its block of the rotated weights. -/
theorem flushed_eq (c : Dev nD) (t : Fin cfg0.N) :
    (dats m 0 c).flushed 1 t = ((cfg0.win 1).blk t).view.read (Elt Ideal) (rotated m c) := by
  rw [Value.flushed1]
  obtain ⟨-, -, -, e3, e4⟩ := index_facts t
  have hN : t.val < 21 := t.isLt
  funext y
  have hy0 : (y 0).val < 2048 := (y 0).isLt
  have hy1 : (y 1).val < 256 := (y 1).isLt
  have h0 : ((((cfg0.win 1).blk t).view.emb y) 0).val = (y 0).val := by
    show win0_1.index t (0 : Fin 2) * 2048 + 1 * (y 0).val = _; omega
  have h1 : ((((cfg0.win 1).blk t).view.emb y) 1).val = t.val * 256 + (y 1).val := by
    show win0_1.index t (1 : Fin 2) * 256 + 1 * (y 1).val = _; omega
  have key := (congrArg (out0_1 (F := Ideal) (iblk m c 0 t)) (eq_ix2 (y : S2048x256.Idx))).trans
    ((block_apply (iblk m c 0 t) (y 0) (y 1)).trans
      (fetched_apply m c t (y 0) (y 1) ⟨((t.val * 256 + (y 1).val) + 1280) % 5376, Nat.mod_lt _ (by decide)⟩
        (by dsimp only; omega)))
  refine key.trans (congrArg (weights m c) (funext fun a => Fin.ext ?_))
  match a with
  | ⟨0, _⟩ => rfl
  | ⟨1, _⟩ => exact h0.symm
  | ⟨2, _⟩ => show _ % 5376 = (((((cfg0.win 1).blk t).view.emb y) 1).val + 1280) % 5376; rw [h1]

/-- Every index of the result lies in the block of its column's point. -/
theorem covered (i : S2048x5376.Idx) : ∃ t : Fin cfg0.N, (cfg0.win 1).flush t = true ∧ i ∈ ((cfg0.win 1).blk t).view.set := by
  have h0 : (i 0).val < 2048 := (i 0).isLt
  have h1 : (i 1).val < 5376 := (i 1).isLt
  have ht : (i 1).val / 256 < cfg0.N := by show (i 1).val / 256 < 21; omega
  obtain ⟨-, -, -, e3, e4⟩ := index_facts ⟨(i 1).val / 256, ht⟩
  have key : ((cfg0.win 1).blk ⟨(i 1).val / 256, ht⟩).view.emb
      (ix2 ⟨(i 0).val, h0⟩ ⟨(i 1).val % 256, Nat.mod_lt _ (by decide)⟩ : S2048x256.Idx) = i := by
    refine funext fun a => Fin.ext ?_
    match a with
    | ⟨0, _⟩ => show win0_1.index _ (0 : Fin 2) * 2048 + 1 * (i 0).val = (i 0).val; rw [e3]; omega
    | ⟨1, _⟩ => show win0_1.index _ (1 : Fin 2) * 256 + 1 * ((i 1).val % 256) = (i 1).val; rw [e4]; dsimp only; omega
  refine ⟨⟨(i 1).val / 256, ht⟩, flush0_1 _, ?_⟩
  have hmem := ((cfg0.win 1).blk ⟨(i 1).val / 256, ht⟩).view.emb_mem_set
    (ix2 ⟨(i 0).val, h0⟩ ⟨(i 1).val % 256, Nat.mod_lt _ (by decide)⟩ : S2048x256.Idx)
  rwa [key] at hmem

/-- So the result array ends holding the rotated weights. -/
theorem final_eq (c : Dev nD) : (dats m 0 c).arrAt 1 cfg0.N = rotated m c :=
  (dats m 0 c).arrAt_eq_of_cover 1 _ (fun t _ => flushed_eq m c t) covered

/-- The run: the result array at the rotated weights, the argument unchanged. -/
theorem run : θ_run defs (onTc (τ := τ) (main (F := Ideal))) ⟨m, fun _ => 0, ρ⟩ fun r => ∀ c : Dev nD,
      r.2.mem ((c : Thread nD τ).loc main_v0) = rotated m c
      ∧ r.2.mem ((c : Thread nD τ).loc main_arg0) = m ((c : Thread nD τ).loc main_arg0) :=
  (θ_run defs _ _).mono (fun _ h c => ⟨(h c).1.trans (final_eq m c), (h c).2⟩) (Value.run_blocks m ρ)

end Cert.CastRotateIdeal.Rotated

namespace Cert.RotateClaims

open Idealize.ShloMosaic Idealize.ShloMosaic.TcCoe Idealize.SL.Sem

/-- The reference's term, at an index, is the rotated weight. -/
theorem reference_apply (w : Vec Ideal Cert.CastRotateRefIdeal.S1x2048x5376 .f32) (i : Fin 2048) (j : Fin 5376) :
    Cert.CastRotateRefIdeal.Read.val_main_v5 (F := Ideal) w (ix2 i j)
      = w (ix3 0 i ⟨(j.val + 1280) % 5376, Nat.mod_lt _ (by decide)⟩) := by
  have hj := j.isLt
  pointwise [Cert.CastRotateRefIdeal.Read.val_main_v5, Cert.CastRotateRefIdeal.Read.val_main_v4, Cert.CastRotateRefIdeal.Read.val_main_v3, Cert.CastRotateRefIdeal.Read.val_main_v2, Cert.CastRotateRefIdeal.Read.val_main_v1, Cert.CastRotateRefIdeal.Read.val_main_v0]
  split
  · exact congrArg (fun l => w (ix3 0 i l)) (Fin.ext (by dsimp only; omega))
  · exact congrArg (fun l => w (ix3 0 i l)) (Fin.ext (by dsimp only; omega))

/-- The rotating cast and the reference's two slices end with equal results over the extended reals. -/
theorem algebraic : Cert.algebraic_CastRotateIdeal_CastRotateRefIdeal := by
  intro m g m' g' _ hagree
  refine ⟨Cert.CastRotateIdeal.Rotated.rotated m, Cert.CastRotateIdeal.Rotated.run m g, ?_⟩
  refine (θ_run _ _ _).mono (fun r h c => ⟨(h c).1.trans ?_, (h c).2⟩) (Cert.CastRotateRefIdeal.Value.run m' g')
  rw [hagree c]
  funext i
  rw [eq_ix2 i]
  exact reference_apply _ _ _

/-- The reference runs to the end, faults nowhere, and keeps its argument. -/
theorem reference_frame : Cert.quiescent_CastRotateRefIdeal := fun m g _ =>
  (θ_run _ _ _).mono (fun r h => ⟨fun c => (h c).2, sem_eq_zero_of_no_sems (by decide) r.2⟩)
    (Cert.CastRotateRefIdeal.Value.run (F := Ideal) m g)

end Cert.RotateClaims

end
-- ==== Proof.AttnBody.lean ====
/- The attention kernel's body in a vocabulary of its own: one head of one query block, as vector operations on the
   fetched blocks, and the sixteen stored pieces as pairs of such heads. -/
module

public import proofs.«01_k».proof.Proof.Gen.KernelIdeal.Value
public import Idealize.ShloMosaic.Lib.Pipeline.Value
public import Idealize.ShloMosaic.Lib.Pointwise

@[expose] public section

set_option maxRecDepth 20000

noncomputable section

namespace Cert.KernelIdeal.Body

open Cert.KernelIdeal Cert.KernelIdeal.Gen Idealize.ShloMosaic Idealize.ShloMosaic.TcCoe Idealize.SL.Sem

variable {F : FTy → Type} [FloatOps F]

/-- Where query block `j` lies in the fetched queries. -/
theorem inb_query (j : Fin 2) : ∀ a, (![0, 128 * j.val, 0] : Fin 3 → ℕ) a + (![1, 128, 1024] : Fin 3 → ℕ) a ≤ S1x256x1024.size a := by
  revert j; decide

/-- Where head `h`'s table lies in the bias tables. -/
theorem inb_table (w : Fin 2) (h : Fin 16) : ∀ a, (![w.val, h.val, 0, 0] : Fin 4 → ℕ) a + (![1, 1, 128, 256] : Fin 4 → ℕ) a ≤ S2x16x128x256.size a := by
  revert w h; decide

/-- Where head `h`'s sink lies. -/
theorem inb_sink (h : Fin 16) : ∀ a, (![h.val] : Fin 1 → ℕ) a + (![1] : Fin 1 → ℕ) a ≤ S16.size a := by
  revert h; decide

/-- The 256 key rows of query block `j` among the 384 fetched. -/
theorem slices_keys (j : Fin 2) : S384x128.Slices ![128 * j.val, 0] S256x128 := by
  revert j; decide

/-- The columns of head `a` of key group `g` in the queries. -/
theorem slices_query (g : Fin 2) (a : Fin 8) : S128x1024.Slices ![0, 512 * g.val + 64 * a.val] S128x64 := by
  revert g a; decide

/-- The columns of key group `g`. -/
theorem slices_group (g : Fin 2) : S256x128.Slices ![0, 64 * g.val] S256x64 := by
  revert g; decide

/-- Head `a`'s rows in the stacked scores. -/
theorem slices_scores (a : Fin 8) : S1024x256.Slices ![128 * a.val, 0] S128x256 := by
  revert a; decide

/-- Head `a`'s rows in the stacked sums. -/
theorem slices_sums (a : Fin 8) : S1024x64.Slices ![128 * a.val, 0] S128x64 := by
  revert a; decide

/-- Eight heads' columns stacked, head after head. -/
def stackCols (x : Fin 8 → FVec F S128x64 .bf16) : FVec F S1024x64 .bf16 :=
  concatenate S1024x64 0 [⟨S128x64, x 0⟩, ⟨S128x64, x 1⟩, ⟨S128x64, x 2⟩, ⟨S128x64, x 3⟩, ⟨S128x64, x 4⟩, ⟨S128x64, x 5⟩, ⟨S128x64, x 6⟩, ⟨S128x64, x 7⟩]
    concatenates_S128x64_S128x64_S128x64_S128x64_S128x64_S128x64_S128x64_S128x64_S1024x64_d0

/-- Eight heads' weights stacked, head after head. -/
def stackRows (x : Fin 8 → FVec F S128x256 .bf16) : FVec F S1024x256 .bf16 :=
  concatenate S1024x256 0 [⟨S128x256, x 0⟩, ⟨S128x256, x 1⟩, ⟨S128x256, x 2⟩, ⟨S128x256, x 3⟩, ⟨S128x256, x 4⟩, ⟨S128x256, x 5⟩, ⟨S128x256, x 6⟩, ⟨S128x256, x 7⟩]
    concatenates_S128x256_S128x256_S128x256_S128x256_S128x256_S128x256_S128x256_S128x256_S1024x256_d0

/-- The scores of the eight heads of group `g`: the stacked queries against the group's keys. -/
def scores (q : FVec F S128x1024 .bf16) (kk : FVec F S256x128 .bf16) (g : Fin 2) : FVec F S1024x256 .f32 :=
  matmul dot_S1024x64_S256x64_S1024x256_1_1_0_0_n_n none
    (stackCols fun a => extractStridedSlice S128x64 ![0, 512 * g.val + 64 * a.val] q (slices_query g a))
    (extractStridedSlice S256x64 ![0, 64 * g.val] kk (slices_group g)) (constant S1024x256 .f32 0x00000000#32)

/-- Head `a`'s logits: its scores and its bias table. -/
def logits (s : FVec F S1024x256 .f32) (a : Fin 8) (b : Vec F S1x1x128x256 .f32) : FVec F S128x256 .f32 :=
  addf (extractStridedSlice S128x256 ![128 * a.val, 0] s (slices_scores a)) (shapeCast S128x256 b shapeCasts_S1x1x128x256_S128x256)

/-- The greatest of a row's logits and the sink. -/
def peak (l : FVec F S128x256 .f32) (sink : Elt F .f32) : FVec F S128x1 .f32 :=
  maximumf (shapeCast S128x1 (multiReduction .maximumf [1] S128 l 0xFF800000#32 reduces_S128x256_S128 (.inl rfl) rfl) shapeCasts_S128_S128x1)
    (broadcast S128x1 sink)

/-- The exponentials of a head's logits under its peak. -/
def weights (l : FVec F S128x256 .f32) (sink : Elt F .f32) : FVec F S128x256 .bf16 :=
  truncf .bf16 (exp (subf l (broadcastTo S128x256 (peak l sink) broadcasts_S128x1_S128x256))) bitsLt_bf16_f32

/-- The weighted sums of a group's heads. -/
def sums (p : FVec F S1024x256 .bf16) (v : FVec F S256x64 .bf16) : FVec F S1024x64 .f32 :=
  matmul dot_S1024x256_S256x64_S1024x64_1_0_0_1_n_n none p v (constant S1024x64 .f32 0x00000000#32)

/-- Head `a`'s result: its weighted values over its weights' sum with the sink's. -/
def quotient (p : FVec F S1024x256 .bf16) (vv : FVec F S256x128 .bf16) (g : Fin 2) (a : Fin 8) (l : FVec F S128x256 .f32) (sink : Elt F .f32) :
    FVec F S128x64 .f32 :=
  divf (extractStridedSlice S128x64 ![128 * a.val, 0] (sums p (extractStridedSlice S256x64 ![0, 64 * g.val] vv (slices_group g))) (slices_sums a))
    (addf (extractStridedSlice S128x64 ![128 * a.val, 0] (sums p k0_pay5) (slices_sums a))
      (broadcastTo S128x64 (exp (subf (broadcast S128x1 sink) (peak l sink))) broadcasts_S128x1_S128x64))

variable (x0 : Vec F S16 .f32) (x1 : Vec F S1x256x1024 .bf16) (x2 x3 : Vec F S1x256x128 .bf16) (x4 x5 : Vec F S1x128x128 .bf16) (x6 : Vec F S2x16x128x256 .f32)

/-- Head `a` of group `g`. -/
abbrev headOf (g : Fin 2) (a : Fin 8) : Fin 16 := ⟨8 * g.val + a.val, by omega⟩

/-- The head's sink, as loaded. -/
def sinkOf (h : Fin 16) : Elt F .f32 := View.ld x0 (Rect.unit ![h.val] ![1] (inb_sink h)) (Shape.Idx.first (show 0 < S1.numel by decide))

/-- The head's bias table, as loaded. -/
def tableOf (w : Fin 2) (h : Fin 16) : Vec F S1x1x128x256 .f32 := View.ld x6 (Rect.unit ![w.val, h.val, 0, 0] ![1, 1, 128, 256] (inb_table w h))

/-- The query block, as loaded. -/
def queriesOf (j : Fin 2) : FVec F S128x1024 .bf16 :=
  shapeCast S128x1024 (View.ld x1 (Rect.unit ![0, 128 * j.val, 0] ![1, 128, 1024] (inb_query j))) shapeCasts_S1x128x1024_S128x1024

/-- The block's keys, scaled: 128 rows before it and its own. -/
def keysOf (j : Fin 2) : FVec F S256x128 .bf16 :=
  extractStridedSlice S256x128 ![128 * j.val, 0]
    (k0_pay3 (View.ld x4 (Rect.unit ![0, 0, 0] ![1, 128, 128] inb_S1x128x128_S1x128x128_0_0_0))
      (View.ld x2 (Rect.unit ![0, 0, 0] ![1, 256, 128] inb_S1x256x128_S1x256x128_0_0_0))) (slices_keys j)

/-- The block's values. -/
def valuesOf (j : Fin 2) : FVec F S256x128 .bf16 :=
  extractStridedSlice S256x128 ![128 * j.val, 0]
    (k0_pay4 (View.ld x5 (Rect.unit ![0, 0, 0] ![1, 128, 128] inb_S1x128x128_S1x128x128_0_0_0))
      (View.ld x3 (Rect.unit ![0, 0, 0] ![1, 256, 128] inb_S1x256x128_S1x256x128_0_0_0))) (slices_keys j)

/-- A head's logits, from the fetched blocks. -/
def logitsOf (w j g : Fin 2) (a : Fin 8) : FVec F S128x256 .f32 :=
  logits (scores (queriesOf x1 j) (keysOf x2 x4 j) g) a (tableOf x6 w (headOf g a))

/-- A group's weights, stacked. -/
def weightsOf (w j g : Fin 2) : FVec F S1024x256 .bf16 :=
  stackRows fun a => weights (logitsOf x1 x2 x4 x6 w j g a) (sinkOf x0 (headOf g a))

/-- A head's result, from the fetched blocks. -/
def resultOf (w j g : Fin 2) (a : Fin 8) : FVec F S128x64 .f32 :=
  quotient (weightsOf x0 x1 x2 x4 x6 w j g) (valuesOf x3 x5 j) g a (logitsOf x1 x2 x4 x6 w j g a) (sinkOf x0 (headOf g a))

/-- A stored piece: heads `2 n` and `2 n + 1` of a group side by side. -/
def pieceOf (w j g : Fin 2) (n : Fin 4) : FVec F S1x128x128 .bf16 :=
  shapeCast S1x128x128 (truncf .bf16 (concatenate S128x128 1
    [⟨S128x64, resultOf x0 x1 x2 x3 x4 x5 x6 w j g ⟨2 * n.val, by omega⟩⟩, ⟨S128x64, resultOf x0 x1 x2 x3 x4 x5 x6 w j g ⟨2 * n.val + 1, by omega⟩⟩]
    concatenates_S128x64_S128x64_S128x128_d1) bitsLt_bf16_f32) shapeCasts_S128x128_S1x128x128

/-- Where a piece lies in the result's block. -/
theorem inb_piece (j g : Fin 2) (n : Fin 4) :
    ∀ a, (![0, 128 * j.val, 512 * g.val + 128 * n.val] : Fin 3 → ℕ) a + (![1, 128, 128] : Fin 3 → ℕ) a ≤ S1x256x1024.size a := by
  revert j g n; decide

/-- Which bias table the first query block of a grid point takes: the one without a previous block at the sequence's start. -/
abbrev first (i : grid0.Coords) : Fin 2 :=
  ⟨BitVec.toNat (Scalar.indexCast (Scalar.select (Scalar.cmpi CmpIPredicate.eq (BitVec.ofNat 32 (i 1).val) 0#32) 1#32 0#32)), by
    unfold Scalar.indexCast Scalar.select
    split <;> decide⟩

set_option maxHeartbeats 4000000 in
/-- The body's stores, last first: the sixteen pieces. -/
theorem run_pieces (c : Dev nD) (i : grid0.Coords) (arg2 : Memref sig .tc .smem S16 .f32) (h2 : arg2.IsWhole) (arg3 : Memref sig .tc .vmem S1x256x1024 .bf16) (h3 : arg3.IsWhole)
    (arg4 : Memref sig .tc .vmem S1x256x128 .bf16) (h4 : arg4.IsWhole) (arg5 : Memref sig .tc .vmem S1x256x128 .bf16) (h5 : arg5.IsWhole) (arg6 : Memref sig .tc .vmem S1x128x128 .bf16) (h6 : arg6.IsWhole)
    (arg7 : Memref sig .tc .vmem S1x128x128 .bf16) (h7 : arg7.IsWhole) (arg8 : Memref sig .tc .vmem S2x16x128x256 .f32) (h8 : arg8.IsWhole) (arg9 : Memref sig .tc .vmem S1x256x1024 .bf16) (h9 : arg9.IsWhole) :
    (kernelRun0_A (F := F) c i arg2 h2 arg3 h3 arg4 h4 arg5 h5 arg6 h6 arg7 h7 arg8 h8 arg9 h9 x0 x1 x2 x3 x4 x5 x6).1 =
      [⟨Rect.unit ![0, 128, 896] ![1, 128, 128] (inb_piece 1 1 3), pieceOf x0 x1 x2 x3 x4 x5 x6 0 1 1 3⟩,
       ⟨Rect.unit ![0, 128, 768] ![1, 128, 128] (inb_piece 1 1 2), pieceOf x0 x1 x2 x3 x4 x5 x6 0 1 1 2⟩,
       ⟨Rect.unit ![0, 128, 640] ![1, 128, 128] (inb_piece 1 1 1), pieceOf x0 x1 x2 x3 x4 x5 x6 0 1 1 1⟩,
       ⟨Rect.unit ![0, 128, 512] ![1, 128, 128] (inb_piece 1 1 0), pieceOf x0 x1 x2 x3 x4 x5 x6 0 1 1 0⟩,
       ⟨Rect.unit ![0, 128, 384] ![1, 128, 128] (inb_piece 1 0 3), pieceOf x0 x1 x2 x3 x4 x5 x6 0 1 0 3⟩,
       ⟨Rect.unit ![0, 128, 256] ![1, 128, 128] (inb_piece 1 0 2), pieceOf x0 x1 x2 x3 x4 x5 x6 0 1 0 2⟩,
       ⟨Rect.unit ![0, 128, 128] ![1, 128, 128] (inb_piece 1 0 1), pieceOf x0 x1 x2 x3 x4 x5 x6 0 1 0 1⟩,
       ⟨Rect.unit ![0, 128, 0] ![1, 128, 128] (inb_piece 1 0 0), pieceOf x0 x1 x2 x3 x4 x5 x6 0 1 0 0⟩,
       ⟨Rect.unit ![0, 0, 896] ![1, 128, 128] (inb_piece 0 1 3), pieceOf x0 x1 x2 x3 x4 x5 x6 (first i) 0 1 3⟩,
       ⟨Rect.unit ![0, 0, 768] ![1, 128, 128] (inb_piece 0 1 2), pieceOf x0 x1 x2 x3 x4 x5 x6 (first i) 0 1 2⟩,
       ⟨Rect.unit ![0, 0, 640] ![1, 128, 128] (inb_piece 0 1 1), pieceOf x0 x1 x2 x3 x4 x5 x6 (first i) 0 1 1⟩,
       ⟨Rect.unit ![0, 0, 512] ![1, 128, 128] (inb_piece 0 1 0), pieceOf x0 x1 x2 x3 x4 x5 x6 (first i) 0 1 0⟩,
       ⟨Rect.unit ![0, 0, 384] ![1, 128, 128] (inb_piece 0 0 3), pieceOf x0 x1 x2 x3 x4 x5 x6 (first i) 0 0 3⟩,
       ⟨Rect.unit ![0, 0, 256] ![1, 128, 128] (inb_piece 0 0 2), pieceOf x0 x1 x2 x3 x4 x5 x6 (first i) 0 0 2⟩,
       ⟨Rect.unit ![0, 0, 128] ![1, 128, 128] (inb_piece 0 0 1), pieceOf x0 x1 x2 x3 x4 x5 x6 (first i) 0 0 1⟩,
       ⟨Rect.unit ![0, 0, 0] ![1, 128, 128] (inb_piece 0 0 0), pieceOf x0 x1 x2 x3 x4 x5 x6 (first i) 0 0 0⟩] := by
  unfold kernelRun0_A
  dsimp only
  sl_unfold_words
  simp only [View.readAt_eq_ld, h2.read_unread, h3.read_unread, h4.read_unread, h5.read_unread, h6.read_unread, h7.read_unread, h8.read_unread]
  rfl

end Cert.KernelIdeal.Body

end
-- ==== Proof.AttnRead.lean ====
/- The attention body's heads read at an index over the extended reals. -/
module

public import proofs.«01_k».proof.Proof.AttnBody
public import Idealize.ShloMosaic.Lib.Pointwise
public import Idealize.ShloMosaic.Lib.IdealHost

@[expose] public section

noncomputable section

namespace Cert.KernelIdeal.Body

open Cert.KernelIdeal Cert.KernelIdeal.Gen Idealize.ShloMosaic Idealize.ShloMosaic.TcCoe Idealize.SL.Sem

/-- The f32 pattern of minus infinity. -/
theorem ofBits_bottom : Ideal.ofBits .f32 0xFF800000#32 = ⊥ := by
  simp [Ideal.ofBits, Ideal.ieee]

/-- The bf16 pattern of one eighth. -/
theorem ofBits_eighth : Ideal.ofBits .bf16 0x3E00#16 = (((1 : ℝ) / 8 : ℝ) : EReal) := by
  simp [Ideal.ofBits, Ideal.ieee, -EReal.coe_mul]
  norm_num

/-- A stack of eight heads' columns at a head's row. -/
theorem stackCols_apply (x : Fin 8 → FVec Ideal S128x64 .bf16) (a : Fin 8) (r : Fin 128) (d : Fin 64) :
    stackCols x (ix2 ⟨128 * a.val + r.val, by omega⟩ d) = x a (ix2 r d) := by
  unfold stackCols
  fin_cases a <;> (pointwise; repeat (first | rw [dif_neg (by omega)] | rw [dif_pos (by omega)])) <;>
    exact congrArg (fun i => x _ (ix2 i d)) (Fin.ext (by dsimp only; omega))

/-- A stack of eight heads' weights at a head's row. -/
theorem stackRows_apply (x : Fin 8 → FVec Ideal S128x256 .bf16) (a : Fin 8) (r : Fin 128) (k : Fin 256) :
    stackRows x (ix2 ⟨128 * a.val + r.val, by omega⟩ k) = x a (ix2 r k) := by
  unfold stackRows
  fin_cases a <;> (pointwise; repeat (first | rw [dif_neg (by omega)] | rw [dif_pos (by omega)])) <;>
    exact congrArg (fun i => x _ (ix2 i k)) (Fin.ext (by dsimp only; omega))

/-- The scores at a head's row: the contraction of its query with the key. -/
theorem scores_apply (q : FVec Ideal S128x1024 .bf16) (kk : FVec Ideal S256x128 .bf16) (g : Fin 2) (a : Fin 8) (r : Fin 128) (k : Fin 256) :
    scores q kk g (ix2 ⟨128 * a.val + r.val, by omega⟩ k)
      = ∑ d : Fin 64, q (ix2 r ⟨512 * g.val + 64 * a.val + d.val, by omega⟩) * kk (ix2 k ⟨64 * g.val + d.val, by omega⟩) := by
  pointwise [scores]
  refine Finset.sum_congr rfl fun d _ => ?_
  rw [stackCols_apply]
  pointwise

/-- A head's logits at an index. -/
theorem logits_apply (s : FVec Ideal S1024x256 .f32) (a : Fin 8) (b : Vec Ideal S1x1x128x256 .f32) (r : Fin 128) (k : Fin 256) :
    logits s a b (ix2 r k) = s (ix2 ⟨128 * a.val + r.val, by omega⟩ k) + b (ix4 0 0 r k) := by
  pointwise [logits]

/-- The peak of a row: its greatest logit, or the sink. -/
theorem peak_apply (l : FVec Ideal S128x256 .f32) (sink : Elt Ideal .f32) (r : Fin 128) :
    peak l sink (ix2 r 0) = max (Finset.univ.fold max ⊥ fun k : Fin 256 => l (ix2 r k)) sink := by
  pointwise [peak]
  rw [ofBits_bottom]

/-- A head's weights at an index. -/
theorem weights_apply (l : FVec Ideal S128x256 .f32) (sink : Elt Ideal .f32) (r : Fin 128) (k : Fin 256) :
    weights l sink (ix2 r k) = Ideal.exp (l (ix2 r k) - peak l sink (ix2 r 0)) := by
  pointwise [weights]

/-- The weighted sums at an index. -/
theorem sums_apply (p : FVec Ideal S1024x256 .bf16) (v : FVec Ideal S256x64 .bf16) (r : Fin 1024) (d : Fin 64) :
    sums p v (ix2 r d) = ∑ k : Fin 256, p (ix2 r k) * v (ix2 k d) := by
  pointwise [sums]

/-- The block of ones. -/
theorem ones_apply (k : Fin 256) (d : Fin 64) : k0_pay5 (F := Ideal) (ix2 k d) = 1 := by
  pointwise [k0_pay5]

/-- A head's result at an index, from the stacked weights. -/
theorem quotient_apply (p : FVec Ideal S1024x256 .bf16) (vv : FVec Ideal S256x128 .bf16) (g : Fin 2) (a : Fin 8) (l : FVec Ideal S128x256 .f32) (sink : Elt Ideal .f32)
    (r : Fin 128) (d : Fin 64) :
    quotient p vv g a l sink (ix2 r d)
      = Ideal.div (∑ k : Fin 256, p (ix2 ⟨128 * a.val + r.val, by omega⟩ k) * vv (ix2 k ⟨64 * g.val + d.val, by omega⟩))
        ((∑ k : Fin 256, p (ix2 ⟨128 * a.val + r.val, by omega⟩ k)) + Ideal.exp (sink - peak l sink (ix2 r 0))) := by
  pointwise [quotient, sums, k0_pay5]

variable (x0 : Vec Ideal S16 .f32) (x1 : Vec Ideal S1x256x1024 .bf16) (x2 x3 : Vec Ideal S1x256x128 .bf16) (x4 x5 : Vec Ideal S1x128x128 .bf16) (x6 : Vec Ideal S2x16x128x256 .f32)

/-- The loaded sink. -/
theorem sinkOf_apply (h : Fin 16) : sinkOf x0 h = x0 (ix1 h) := by
  pointwise [sinkOf]

/-- The loaded bias table at an index. -/
theorem tableOf_apply (w : Fin 2) (h : Fin 16) (r : Fin 128) (k : Fin 256) : tableOf x6 w h (ix4 0 0 r k) = x6 (ix4 w h r k) := by
  pointwise [tableOf]

/-- The loaded queries at an index. -/
theorem queriesOf_apply (j : Fin 2) (r : Fin 128) (l : Fin 1024) : queriesOf x1 j (ix2 r l) = x1 (ix3 0 ⟨128 * j.val + r.val, by omega⟩ l) := by
  unfold queriesOf
  rw [shapeCast_apply _ _ (ix2 r l) (ix3 0 r l) (by rw [Shape.rowMajor_val_three, Shape.rowMajor_val_two]; show (0 * 128 + r.val) * 1024 + l.val = r.val * 1024 + l.val; omega)]
  refine congrArg x1 (funext fun a => Fin.ext ?_)
  match a with
  | ⟨0, _⟩ => rfl
  | ⟨1, _⟩ => show 128 * j.val + 1 * r.val = 128 * j.val + r.val; omega
  | ⟨2, _⟩ => show 0 + 1 * l.val = l.val; omega

/-- The scaled keys at an index: a previous row or one of the block's. -/
theorem keysOf_apply (j : Fin 2) (k : Fin 256) (l : Fin 128) :
    keysOf x2 x4 j (ix2 k l) = (if h : 128 * j.val + k.val < 128 then x4 (ix3 0 ⟨128 * j.val + k.val, h⟩ l) else x2 (ix3 0 ⟨128 * j.val + k.val - 128, by omega⟩ l)) * (((1 : ℝ) / 8 : ℝ) : EReal) := by
  pointwise [keysOf, k0_pay3]
  rw [ofBits_eighth]

/-- The values at an index. -/
theorem valuesOf_apply (j : Fin 2) (k : Fin 256) (l : Fin 128) :
    valuesOf x3 x5 j (ix2 k l) = (if h : 128 * j.val + k.val < 128 then x5 (ix3 0 ⟨128 * j.val + k.val, h⟩ l) else x3 (ix3 0 ⟨128 * j.val + k.val - 128, by omega⟩ l)) := by
  pointwise [valuesOf, k0_pay4]

end Cert.KernelIdeal.Body

end
-- ==== Proof.AttnMath.lean ====
/- One row of a softmax with a sink over the extended reals: the weights divided before or after they meet the values. -/
module

public import Idealize.ShloMosaic.Lib.IdealHost

@[expose] public section

noncomputable section

namespace Cert.SinkRow

open Idealize.ShloMosaic

/-- The greatest of the logits. -/
def top {n : Nat} (l : Fin n → EReal) : EReal := Finset.univ.fold max ⊥ l

/-- The greatest of the logits and one more is the greater of the two. -/
theorem top_succ {n : Nat} (l : Fin (n + 1) → EReal) : top l = max (top fun k => l k.castSucc) (l (Fin.last n)) := by
  have hle : ∀ (N : Nat) (f : Fin N → EReal) (k : Fin N), f k ≤ Finset.univ.fold max ⊥ f := fun N f k =>
    ((Finset.fold_max_le (s := Finset.univ) (f := f) (b := ⊥) _).1 le_rfl).2 k (Finset.mem_univ k)
  unfold top
  refine le_antisymm ((Finset.fold_max_le _).2 ⟨bot_le, fun k _ => ?_⟩) (max_le ((Finset.fold_max_le _).2 ⟨bot_le, fun k _ => ?_⟩) (hle _ l _))
  · induction k using Fin.lastCases with
    | last => exact le_max_right _ _
    | cast k => exact le_max_of_le_left (hle _ (fun k => l k.castSucc) k)
  · exact hle _ l k.castSucc

/-- A positive real factor goes into a sum of extended reals. -/
theorem sum_mul_pos {n : Nat} (f : Fin n → EReal) (c : ℝ) (hc : 0 < c) :
    (∑ k, f k) * (c : EReal) = ∑ k, f k * (c : EReal) := by
  classical
  induction (Finset.univ : Finset (Fin n)) using Finset.induction_on with
  | empty => simp
  | insert a t ha ih =>
    rw [Finset.sum_insert ha, Finset.sum_insert ha, ← ih]
    exact EReal.right_distrib_of_nonneg_of_ne_top (EReal.coe_nonneg.2 hc.le) (EReal.coe_ne_top c) _ _

/-- The exponential of anything that is not plus infinity is a real number, at least zero. -/
theorem exp_real (x : EReal) (h : x ≠ ⊤) : ∃ e : ℝ, 0 ≤ e ∧ Ideal.exp x = (e : EReal) := by
  induction x with
  | bot => exact ⟨0, le_rfl, by simp⟩
  | coe r => exact ⟨Real.exp r, (Real.exp_pos r).le, by simp⟩
  | top => exact absurd rfl h

/-- So is a finite sum of such numbers. -/
theorem sum_real {n : Nat} (f : Fin n → EReal) (h : ∀ k, ∃ e : ℝ, 0 ≤ e ∧ f k = (e : EReal)) :
    ∃ e : ℝ, 0 ≤ e ∧ ∑ k, f k = (e : EReal) := by
  choose e he hf using h
  refine ⟨∑ k, e k, Finset.sum_nonneg fun k _ => he k, ?_⟩
  rw [show f = fun k => ((e k : ℝ) : EReal) from funext hf]
  induction (Finset.univ : Finset (Fin n)) using Finset.cons_induction with
  | empty => simp
  | cons a t ha ih => rw [Finset.sum_cons, Finset.sum_cons, EReal.coe_add, ih]

/-- A maximum of finitely many extended reals below plus infinity and of one real number is a real number. -/
theorem peak_real (t s : EReal) (ht : t ≠ ⊤) (hs : s ≠ ⊤) (hs' : s ≠ ⊥) :
    ∃ m : ℝ, max t s = (m : EReal) := by
  have h1 : max t s ≠ ⊤ := by
    rcases max_choice t s with h | h <;> rw [h] <;> assumption
  have h2 : max t s ≠ ⊥ := fun h => hs' (le_bot_iff.1 (h ▸ le_max_right t s))
  exact ⟨(max t s).toReal, (EReal.coe_toReal h1 h2).symm⟩

/-- The greatest of finitely many extended reals below plus infinity is below plus infinity. -/
theorem top_ne_top {n : Nat} (l : Fin n → EReal) (h : ∀ k, l k ≠ ⊤) : top l ≠ ⊤ :=
  ((Finset.fold_max_lt (s := Finset.univ) (f := l) (b := ⊥) ⊤).2 ⟨bot_lt_top, fun k _ => lt_top_iff_ne_top.2 (h k)⟩).ne

/-- The row's output with the division last: what the kernel computes. -/
def late {n : Nat} (l : Fin n → EReal) (s m : EReal) (v : Fin n → EReal) : EReal :=
  Ideal.div (∑ k, Ideal.exp (l k - m) * v k) ((∑ k, Ideal.exp (l k - m)) + Ideal.exp (s - m))

/-- The row's output with the division first: what the reference computes. -/
def early {n : Nat} (l : Fin n → EReal) (s m : EReal) (v : Fin n → EReal) : EReal :=
  ∑ k, v k * Ideal.div (Ideal.exp (l k - m)) ((∑ k, Ideal.exp (l k - m)) + Ideal.exp (s - m))

/-- Both divisions give the same when the shift and the sink are real and no logit is plus infinity; values under a
logit of minus infinity do not matter. -/
theorem late_eq_early {n : Nat} (l : Fin n → EReal) (s m : ℝ) (v v' : Fin n → EReal) (hl : ∀ k, l k ≠ ⊤)
    (hv : ∀ k, l k ≠ ⊥ → v k = v' k) : late l (s : EReal) (m : EReal) v = early l (s : EReal) (m : EReal) v' := by
  have hx : ∀ k, l k - (m : EReal) ≠ ⊤ := fun k => by
    have := hl k
    induction h : l k with
    | bot => simp
    | coe r => rw [← EReal.coe_sub]; exact EReal.coe_ne_top _
    | top => exact absurd h this
  obtain ⟨d, hd, hsum⟩ := sum_real _ fun k => exp_real _ (hx k)
  have hs : Ideal.exp ((s : EReal) - (m : EReal)) = ((Real.exp (s - m) : ℝ) : EReal) := by
    rw [← EReal.coe_sub, Ideal.exp_coe]
  have hpos : 0 < d + Real.exp (s - m) := add_pos_of_nonneg_of_pos hd (Real.exp_pos _)
  unfold late early
  rw [hsum, hs, ← EReal.coe_add, Ideal.div_coe hpos.ne', sum_mul_pos _ _ (one_div_pos.2 hpos)]
  refine Finset.sum_congr rfl fun k _ => ?_
  rw [Ideal.div_coe hpos.ne']
  by_cases hk : l k = ⊥
  · simp [hk]
  · rw [hv k hk, mul_assoc, mul_comm (v' k), ← mul_assoc, mul_assoc, mul_comm (v' k), ← mul_assoc]

end Cert.SinkRow

end
-- ==== Proof.AttnResult.lean ====
/- A head's result in the attention's body at an index, and the block that the body leaves. -/
module

public import proofs.«01_k».proof.Proof.AttnRead
public import proofs.«01_k».proof.Proof.AttnMath
public import proofs.«01_k».proof.Proof.Gen.KernelIdeal.Value

@[expose] public section

noncomputable section

namespace Cert.KernelIdeal.Body

open Cert.KernelIdeal Cert.KernelIdeal.Gen Idealize.ShloMosaic Idealize.ShloMosaic.TcCoe Idealize.SL.Sem

variable (x0 : Vec Ideal S16 .f32) (x1 : Vec Ideal S1x256x1024 .bf16) (x2 x3 : Vec Ideal S1x256x128 .bf16) (x4 x5 : Vec Ideal S1x128x128 .bf16) (x6 : Vec Ideal S2x16x128x256 .f32)

/-- A head's logits from the fetched blocks: the contraction of the query with the scaled key, plus the bias. -/
theorem logitsOf_apply (w j g : Fin 2) (a : Fin 8) (r : Fin 128) (k : Fin 256) :
    logitsOf x1 x2 x4 x6 w j g a (ix2 r k)
      = (∑ d : Fin 64, x1 (ix3 0 ⟨128 * j.val + r.val, by omega⟩ ⟨512 * g.val + 64 * a.val + d.val, by omega⟩)
          * ((if h : 128 * j.val + k.val < 128 then x4 (ix3 0 ⟨128 * j.val + k.val, h⟩ ⟨64 * g.val + d.val, by omega⟩)
              else x2 (ix3 0 ⟨128 * j.val + k.val - 128, by omega⟩ ⟨64 * g.val + d.val, by omega⟩)) * (((1 : ℝ) / 8 : ℝ) : EReal)))
        + x6 (ix4 w (headOf g a) r k) := by
  unfold logitsOf
  rw [logits_apply, scores_apply, tableOf_apply]
  refine congrArg (· + _) (Finset.sum_congr rfl fun d _ => ?_)
  rw [queriesOf_apply, keysOf_apply]

/-- A head's result from the fetched blocks: one row of the softmax with the sink, divided last. -/
theorem resultOf_apply (w j g : Fin 2) (a : Fin 8) (r : Fin 128) (d : Fin 64) :
    resultOf x0 x1 x2 x3 x4 x5 x6 w j g a (ix2 r d)
      = SinkRow.late (fun k : Fin 256 => logitsOf x1 x2 x4 x6 w j g a (ix2 r k)) (x0 (ix1 (headOf g a)))
          (max (SinkRow.top fun k : Fin 256 => logitsOf x1 x2 x4 x6 w j g a (ix2 r k)) (x0 (ix1 (headOf g a))))
          (fun k : Fin 256 => if h : 128 * j.val + k.val < 128 then x5 (ix3 0 ⟨128 * j.val + k.val, h⟩ ⟨64 * g.val + d.val, by omega⟩)
              else x3 (ix3 0 ⟨128 * j.val + k.val - 128, by omega⟩ ⟨64 * g.val + d.val, by omega⟩)) := by
  have hw : ∀ k : Fin 256, weightsOf x0 x1 x2 x4 x6 w j g (ix2 ⟨128 * a.val + r.val, by omega⟩ k)
      = Ideal.exp (logitsOf x1 x2 x4 x6 w j g a (ix2 r k)
        - max (SinkRow.top fun k : Fin 256 => logitsOf x1 x2 x4 x6 w j g a (ix2 r k)) (x0 (ix1 (headOf g a)))) := fun k => by
    unfold weightsOf
    rw [stackRows_apply, weights_apply, peak_apply, sinkOf_apply]
    rfl
  unfold resultOf SinkRow.late
  rw [quotient_apply, peak_apply, sinkOf_apply]
  refine congr (congrArg Ideal.div (Finset.sum_congr rfl fun k _ => ?_)) (congrArg (· + _) (Finset.sum_congr rfl fun k _ => hw k))
  rw [hw k, valuesOf_apply]

/-- A stored piece at an index: the head that the column names. -/
theorem pieceOf_apply (w j g : Fin 2) (n : Fin 4) (r l : Fin 128) (a : Fin 8) (d : Fin 64) (h : 128 * n.val + l.val = 64 * a.val + d.val) :
    pieceOf x0 x1 x2 x3 x4 x5 x6 w j g n (ix3 0 r l) = resultOf x0 x1 x2 x3 x4 x5 x6 w j g a (ix2 r d) := by
  pointwise [pieceOf]
  split
  · have ha : a = ⟨2 * n.val, by omega⟩ := Fin.ext (by dsimp only; omega)
    rw [ha] at h ⊢
    exact congrArg _ (congrArg (ix2 r) (Fin.ext (by dsimp only at h ⊢; omega)))
  · have ha : a = ⟨2 * n.val + 1, by omega⟩ := Fin.ext (by dsimp only; omega)
    rw [ha] at h ⊢
    exact congrArg _ (congrArg (ix2 r) (Fin.ext (by dsimp only at h ⊢; omega)))

/-- What the body leaves in the result's block, element by element. -/
def blockOf (w : Fin 2) (y : S1x256x1024.Idx) : EReal :=
  have h1 : (y 1).val < 256 := (y 1).isLt
  have h2 : (y 2).val < 1024 := (y 2).isLt
  resultOf x0 x1 x2 x3 x4 x5 x6 (if (y 1).val < 128 then w else 0) ⟨(y 1).val / 128, by omega⟩ ⟨(y 2).val / 512, by omega⟩
    ⟨(y 2).val % 512 / 64, by omega⟩ (ix2 ⟨(y 1).val % 128, by omega⟩ ⟨(y 2).val % 64, by omega⟩)

/-- A stored piece is the block's part under it. -/
theorem piece_block (w j g : Fin 2) (n : Fin 4) (x : S1x128x128.Idx) (y : S1x256x1024.Idx)
    (h1 : (y 1).val = 128 * j.val + (x 1).val) (h2 : (y 2).val = 512 * g.val + 128 * n.val + (x 2).val) :
    pieceOf x0 x1 x2 x3 x4 x5 x6 (if j = 0 then w else 0) j g n x = blockOf x0 x1 x2 x3 x4 x5 x6 w y := by
  have k0 : (x 0).val < 1 := (x 0).isLt
  have k1 : (x 1).val < 128 := (x 1).isLt
  have k2 : (x 2).val < 128 := (x 2).isLt
  have y1 : (y 1).val < 256 := (y 1).isLt
  have y2 : (y 2).val < 1024 := (y 2).isLt
  have e : x = ix3 0 ⟨(x 1).val, k1⟩ ⟨(x 2).val, k2⟩ := funext fun a => Fin.ext (by
    match a with
    | ⟨0, _⟩ => show (x 0).val = 0; omega
    | ⟨1, _⟩ => rfl
    | ⟨2, _⟩ => rfl)
  unfold blockOf
  rw [e, pieceOf_apply x0 x1 x2 x3 x4 x5 x6 _ j g n _ _ ⟨(y 2).val % 512 / 64, by omega⟩ ⟨(y 2).val % 64, by omega⟩ (by dsimp only; omega)]
  have ew : (if j = 0 then w else 0) = if (y 1).val < 128 then w else 0 := by
    refine if_congr ⟨fun h => ?_, fun h => Fin.ext ?_⟩ rfl rfl
    · have : j.val = 0 := congrArg Fin.val h
      omega
    · show j.val = 0
      omega
  have ej : j = ⟨(y 1).val / 128, by omega⟩ := Fin.ext (by dsimp only; omega)
  have eg : g = ⟨(y 2).val / 512, by omega⟩ := Fin.ext (by dsimp only; omega)
  have er : (⟨(x 1).val, k1⟩ : Fin 128) = ⟨(y 1).val % 128, by omega⟩ := Fin.ext (by dsimp only; omega)
  rw [ew, er]
  exact congr (congrFun (congr (congrArg (resultOf x0 x1 x2 x3 x4 x5 x6 _) ej) eg) _) rfl

/-- The body's result block, whatever staging buffers it runs on. -/
theorem out_eq (c : Dev nD) (i : grid0.Coords) (arg2 : Memref sig .tc .smem S16 .f32) (h2 : arg2.IsWhole) (arg3 : Memref sig .tc .vmem S1x256x1024 .bf16) (h3 : arg3.IsWhole)
    (arg4 : Memref sig .tc .vmem S1x256x128 .bf16) (h4 : arg4.IsWhole) (arg5 : Memref sig .tc .vmem S1x256x128 .bf16) (h5 : arg5.IsWhole) (arg6 : Memref sig .tc .vmem S1x128x128 .bf16) (h6 : arg6.IsWhole)
    (arg7 : Memref sig .tc .vmem S1x128x128 .bf16) (h7 : arg7.IsWhole) (arg8 : Memref sig .tc .vmem S2x16x128x256 .f32) (h8 : arg8.IsWhole) (arg9 : Memref sig .tc .vmem S1x256x1024 .bf16) (h9 : arg9.IsWhole)
    (y : S1x256x1024.Idx) :
    out0_A_7 c i arg2 h2 arg3 h3 arg4 h4 arg5 h5 arg6 h6 arg7 h7 arg8 h8 arg9 h9 x0 x1 x2 x3 x4 x5 x6 y = blockOf x0 x1 x2 x3 x4 x5 x6 (first i) y := by
  have cover := cover0_A_7 c i arg2 h2 arg3 h3 arg4 h4 arg5 h5 arg6 h6 arg7 h7 arg8 h8 arg9 h9 x0 x1 x2 x3 x4 x5 x6
  unfold out0_A_7
  rw [View.read_writes_eq_canon _ _ _ cover]
  refine View.canon_apply_of_pieces (blockOf x0 x1 x2 x3 x4 x5 x6 (first i)) _ ?_ y (cover y)
  rw [run_pieces]
  intro pc hpc x
  rcases List.mem_cons.mp hpc with rfl | hpc
  · exact piece_block x0 x1 x2 x3 x4 x5 x6 (first i) 1 1 3 x _ (by show 128 + 1 * (x 1).val = 128 * 1 + (x 1).val; omega) (by show 896 + 1 * (x 2).val = 512 * 1 + 128 * 3 + (x 2).val; omega)
  rcases List.mem_cons.mp hpc with rfl | hpc
  · exact piece_block x0 x1 x2 x3 x4 x5 x6 (first i) 1 1 2 x _ (by show 128 + 1 * (x 1).val = 128 * 1 + (x 1).val; omega) (by show 768 + 1 * (x 2).val = 512 * 1 + 128 * 2 + (x 2).val; omega)
  rcases List.mem_cons.mp hpc with rfl | hpc
  · exact piece_block x0 x1 x2 x3 x4 x5 x6 (first i) 1 1 1 x _ (by show 128 + 1 * (x 1).val = 128 * 1 + (x 1).val; omega) (by show 640 + 1 * (x 2).val = 512 * 1 + 128 * 1 + (x 2).val; omega)
  rcases List.mem_cons.mp hpc with rfl | hpc
  · exact piece_block x0 x1 x2 x3 x4 x5 x6 (first i) 1 1 0 x _ (by show 128 + 1 * (x 1).val = 128 * 1 + (x 1).val; omega) (by show 512 + 1 * (x 2).val = 512 * 1 + 128 * 0 + (x 2).val; omega)
  rcases List.mem_cons.mp hpc with rfl | hpc
  · exact piece_block x0 x1 x2 x3 x4 x5 x6 (first i) 1 0 3 x _ (by show 128 + 1 * (x 1).val = 128 * 1 + (x 1).val; omega) (by show 384 + 1 * (x 2).val = 512 * 0 + 128 * 3 + (x 2).val; omega)
  rcases List.mem_cons.mp hpc with rfl | hpc
  · exact piece_block x0 x1 x2 x3 x4 x5 x6 (first i) 1 0 2 x _ (by show 128 + 1 * (x 1).val = 128 * 1 + (x 1).val; omega) (by show 256 + 1 * (x 2).val = 512 * 0 + 128 * 2 + (x 2).val; omega)
  rcases List.mem_cons.mp hpc with rfl | hpc
  · exact piece_block x0 x1 x2 x3 x4 x5 x6 (first i) 1 0 1 x _ (by show 128 + 1 * (x 1).val = 128 * 1 + (x 1).val; omega) (by show 128 + 1 * (x 2).val = 512 * 0 + 128 * 1 + (x 2).val; omega)
  rcases List.mem_cons.mp hpc with rfl | hpc
  · exact piece_block x0 x1 x2 x3 x4 x5 x6 (first i) 1 0 0 x _ (by show 128 + 1 * (x 1).val = 128 * 1 + (x 1).val; omega) (by show 0 + 1 * (x 2).val = 512 * 0 + 128 * 0 + (x 2).val; omega)
  rcases List.mem_cons.mp hpc with rfl | hpc
  · exact piece_block x0 x1 x2 x3 x4 x5 x6 (first i) 0 1 3 x _ (by show 0 + 1 * (x 1).val = 128 * 0 + (x 1).val; omega) (by show 896 + 1 * (x 2).val = 512 * 1 + 128 * 3 + (x 2).val; omega)
  rcases List.mem_cons.mp hpc with rfl | hpc
  · exact piece_block x0 x1 x2 x3 x4 x5 x6 (first i) 0 1 2 x _ (by show 0 + 1 * (x 1).val = 128 * 0 + (x 1).val; omega) (by show 768 + 1 * (x 2).val = 512 * 1 + 128 * 2 + (x 2).val; omega)
  rcases List.mem_cons.mp hpc with rfl | hpc
  · exact piece_block x0 x1 x2 x3 x4 x5 x6 (first i) 0 1 1 x _ (by show 0 + 1 * (x 1).val = 128 * 0 + (x 1).val; omega) (by show 640 + 1 * (x 2).val = 512 * 1 + 128 * 1 + (x 2).val; omega)
  rcases List.mem_cons.mp hpc with rfl | hpc
  · exact piece_block x0 x1 x2 x3 x4 x5 x6 (first i) 0 1 0 x _ (by show 0 + 1 * (x 1).val = 128 * 0 + (x 1).val; omega) (by show 512 + 1 * (x 2).val = 512 * 1 + 128 * 0 + (x 2).val; omega)
  rcases List.mem_cons.mp hpc with rfl | hpc
  · exact piece_block x0 x1 x2 x3 x4 x5 x6 (first i) 0 0 3 x _ (by show 0 + 1 * (x 1).val = 128 * 0 + (x 1).val; omega) (by show 384 + 1 * (x 2).val = 512 * 0 + 128 * 3 + (x 2).val; omega)
  rcases List.mem_cons.mp hpc with rfl | hpc
  · exact piece_block x0 x1 x2 x3 x4 x5 x6 (first i) 0 0 2 x _ (by show 0 + 1 * (x 1).val = 128 * 0 + (x 1).val; omega) (by show 256 + 1 * (x 2).val = 512 * 0 + 128 * 2 + (x 2).val; omega)
  rcases List.mem_cons.mp hpc with rfl | hpc
  · exact piece_block x0 x1 x2 x3 x4 x5 x6 (first i) 0 0 1 x _ (by show 0 + 1 * (x 1).val = 128 * 0 + (x 1).val; omega) (by show 128 + 1 * (x 2).val = 512 * 0 + 128 * 1 + (x 2).val; omega)
  rcases List.mem_cons.mp hpc with rfl | hpc
  · exact piece_block x0 x1 x2 x3 x4 x5 x6 (first i) 0 0 0 x _ (by show 0 + 1 * (x 1).val = 128 * 0 + (x 1).val; omega) (by show 0 + 1 * (x 2).val = 512 * 0 + 128 * 0 + (x 2).val; omega)
  nomatch hpc

end Cert.KernelIdeal.Body

end
-- ==== Proof.AttnBias.lean ====
/- The relative-position bucket of one query and one key, over words and the extended reals. -/
module

public import Idealize.ShloMosaic.Lib.Pointwise
public import Idealize.ShloMosaic.Lib.IdealHost

@[expose] public section

noncomputable section

namespace Cert.Relative

open Idealize.ShloMosaic

/-- The word for how far the key lies behind the query. -/
def distance (q k : Nat) : BitVec 32 := IntOp.subi (IntOp.addi (BitVec.ofNat 32 q) 128#32) (BitVec.ofNat 32 k)

/-- A small word as an integer. -/
theorem toInt_ofNat (n : Nat) (h : n < 1024) : (BitVec.ofNat 32 n).toInt = (n : Int) := by
  rw [BitVec.toInt_eq_toNat_bmod, BitVec.toNat_ofNat, Nat.mod_eq_of_lt (by omega)]
  exact Int.bmod_eq_of_le (by omega) (by omega)

/-- The distance as an integer. -/
theorem distance_toInt (q : Fin 128) (k : Fin 256) : (distance q.val k.val).toInt = (q.val : Int) + 128 - (k.val : Int) := by
  have hq := q.isLt
  have hk := k.isLt
  have e : distance q.val k.val = BitVec.ofInt 32 ((q.val : Int) + 128 - (k.val : Int)) := by
    unfold distance IntOp.subi IntOp.addi
    apply BitVec.eq_of_toInt_eq
    simp [BitVec.toInt_sub, BitVec.toInt_add, BitVec.toInt_ofInt, toInt_ofNat q.val (by omega), toInt_ofNat k.val (by omega)]
  rw [e, BitVec.toInt_ofInt]
  exact Int.bmod_eq_of_le (by omega) (by omega)

/-- The bucket of a distance: the distance itself below sixteen, a logarithm's integer part above, at most thirty-one. -/
def bucket (w : BitVec 32) : BitVec 32 :=
  Scalar.select (IntOp.cmpi CmpIPredicate.slt (IntOp.maxsi w 0#32) 16#32) (IntOp.maxsi w 0#32)
    (IntOp.minsi
      (IntOp.addi (16#32)
        (FloatOps.fptosi (F := Ideal) (φ := .f32) 32
          (Ideal.div
              (Ideal.log
                (Ideal.div (FloatOps.sitofp (F := Ideal) FTy.f32 (IntOp.maxsi (IntOp.maxsi w 0#32) 1#32))
                  (Ideal.ofBits FTy.f32 1098907648#32)))
              (Ideal.ofBits FTy.f32 1074075026#32) *
            Ideal.ofBits FTy.f32 1098907648#32)))
      31#32)

/-- The f32 pattern of sixteen. -/
theorem ofBits_sixteen : Ideal.ofBits .f32 1098907648#32 = ((16 : ℝ) : EReal) := by
  simp [Ideal.ofBits, Ideal.ieee, -EReal.coe_mul]; norm_num

/-- The f32 pattern near the logarithm of eight is a real number, at least two. -/
theorem ofBits_log_eight : ∃ c : ℝ, 2 ≤ c ∧ Ideal.ofBits .f32 1074075026#32 = (c : EReal) := by
  refine ⟨1 * (1 + (333202 : ℝ) / 2 ^ 23) * 2 ^ (1 : Int), by norm_num, ?_⟩
  simp [Ideal.ofBits, Ideal.ieee, -EReal.coe_mul]; norm_num

/-- Signed words compare as their integers. -/
theorem slt_iff (a b : BitVec 32) : IntOp.cmpi CmpIPredicate.slt a b = 1#1 ↔ a.toInt < b.toInt := by
  unfold IntOp.cmpi
  simp only [BitVec.slt]
  by_cases h : a.toInt < b.toInt <;> simp [h]

/-- Signed words compare as their integers. -/
theorem sge_iff (a b : BitVec 32) : IntOp.cmpi CmpIPredicate.sge a b = 1#1 ↔ b.toInt ≤ a.toInt := by
  unfold IntOp.cmpi
  simp only [BitVec.sle]
  by_cases h : b.toInt ≤ a.toInt <;> simp [h]

/-- The greater of two words, where it is the first. -/
theorem maxsi_of_le (a b : BitVec 32) (h : b.toInt ≤ a.toInt) : IntOp.maxsi a b = a := by
  unfold IntOp.maxsi
  simp only [BitVec.slt, BitVec.sle]
  split <;> first | rfl | (rename_i h'; apply BitVec.eq_of_toInt_eq; simp at h'; omega)

/-- The integer part of a real number from zero to sixty-four, as a word. -/
theorem fptosi_range (r : ℝ) (h0 : 0 ≤ r) (h1 : r < 64) :
    ∃ z : Int, 0 ≤ z ∧ z < 64 ∧ Ideal.fptosi 32 (r : EReal) = BitVec.ofInt 32 z := by
  have a : 0 ≤ ⌊r⌋ := Int.floor_nonneg.2 h0
  have b : ⌊r⌋ < 64 := Int.floor_lt.2 (by exact_mod_cast h1)
  refine ⟨⌊r⌋, a, b, ?_⟩
  show BitVec.ofInt 32 (max _ (min _ (if 0 ≤ r then ⌊r⌋ else ⌈r⌉))) = _
  rw [if_pos h0]
  congr 1
  norm_num
  omega

/-- A word of at least zero, held at thirty-one, lies in the table. -/
theorem minsi_range (a : BitVec 32) (h : 0 ≤ a.toInt) :
    0 ≤ (IntOp.minsi a 31#32).toInt ∧ (IntOp.minsi a 31#32).toInt < 32 := by
  unfold IntOp.minsi
  simp only [BitVec.slt, BitVec.sle]
  split
  · rename_i h'
    simp at h'
    omega
  · simp

/-- The bucket of a distance of at least zero and less than 128 lies in the table. -/
theorem bucket_range (w : BitVec 32) (h0 : 0 ≤ w.toInt) (h1 : w.toInt < 128) :
    0 ≤ (bucket w).toInt ∧ (bucket w).toInt < 32 := by
  unfold bucket
  rw [maxsi_of_le w 0#32 (by simpa using h0)]
  by_cases h : w.toInt < 16
  · rw [show IntOp.cmpi CmpIPredicate.slt w 16#32 = 1#1 from (slt_iff _ _).2 (by simpa using h)]
    simp only [Scalar.select]
    simp
    omega
  · have hn : ¬ IntOp.cmpi CmpIPredicate.slt w 16#32 = 1#1 := fun h' => h (by simpa using (slt_iff _ _).1 h')
    rw [maxsi_of_le w 1#32 (by simp; omega)]
    simp only [Scalar.select, if_neg hn]
    rw [ofBits_sixteen]
    obtain ⟨c, hc, he⟩ := ofBits_log_eight
    rw [he]
    have hw : (16 : ℝ) ≤ (w.toInt : ℝ) := by exact_mod_cast not_lt.1 h
    have hw' : (w.toInt : ℝ) < 128 := by exact_mod_cast h1
    have hs : FloatOps.sitofp (F := Ideal) FTy.f32 w = ((w.toInt : ℝ) : EReal) := rfl
    have hc0 : c ≠ 0 := by linarith
    have hd : (1 : ℝ) ≤ (w.toInt : ℝ) * (1 / 16) := by linarith
    have hlog : Real.log ((w.toInt : ℝ) * (1 / 16)) ≤ 7 := by
      have := Real.log_le_sub_one_of_pos (show 0 < (w.toInt : ℝ) * (1 / 16) by linarith)
      linarith
    have hlog0 : 0 ≤ Real.log ((w.toInt : ℝ) * (1 / 16)) := Real.log_nonneg hd
    have hinv : 1 / c ≤ 1 / 2 := one_div_le_one_div_of_le (by norm_num) hc
    have hinv0 : 0 ≤ 1 / c := by positivity
    have hr0 : 0 ≤ Real.log ((w.toInt : ℝ) * (1 / 16)) * (1 / c) * 16 := by positivity
    have hr1 : Real.log ((w.toInt : ℝ) * (1 / 16)) * (1 / c) * 16 < 64 := by nlinarith
    obtain ⟨z, hz0, hz1, hz⟩ := fptosi_range _ hr0 hr1
    have hx : Ideal.div (Ideal.log (Ideal.div (FloatOps.sitofp (F := Ideal) FTy.f32 w) ((16 : ℝ) : EReal))) (c : EReal) * ((16 : ℝ) : EReal)
        = ((Real.log ((w.toInt : ℝ) * (1 / 16)) * (1 / c) * 16 : ℝ) : EReal) := by
      rw [hs, Ideal.div_coe (by norm_num : (16 : ℝ) ≠ 0), ← EReal.coe_mul, Ideal.log_coe, if_neg (by linarith), Ideal.div_coe hc0,
        ← EReal.coe_mul, ← EReal.coe_mul]
    rw [hx, show FloatOps.fptosi (F := Ideal) (φ := .f32) 32 ((Real.log ((w.toInt : ℝ) * (1 / 16)) * (1 / c) * 16 : ℝ) : EReal) = _ from hz]
    have hne : ¬ IntOp.cmpi CmpIPredicate.slt w 16#32 = 1 := hn
    simp only [if_neg hne]
    refine minsi_range _ ?_
    unfold IntOp.addi
    rw [BitVec.toInt_add, BitVec.toInt_ofInt, Int.bmod_eq_of_le (n := z) (by omega) (by omega)]
    simp
    rw [Int.bmod_eq_of_le (by omega) (by omega)]
    omega

/-- Whether the key lies in the query's window: at or before it, and less than 128 before. -/
def InWindow (q k : Nat) : Prop := 0 ≤ (distance q k).toInt ∧ (distance q k).toInt < 128

/-- The window is decidable. -/
instance (q k : Nat) : Decidable (InWindow q k) := by unfold InWindow; infer_instance

/-- The row of the table a query and a key take. -/
def row (q k : Nat) : Fin 32 := ⟨min (bucket (distance q k)).toInt.toNat 31, by omega⟩

/-- A sum of the table's column against the bucket's indicator is the bucket's entry. -/
theorem one_hot (f : Fin 32 → EReal) (q k : Nat) (h : InWindow q k) :
    ∑ x : Fin 32, f x * FloatOps.uitofp (F := Ideal) FTy.f32 (IntOp.cmpi CmpIPredicate.eq (bucket (distance q k)) (BitVec.ofNat 32 x.val)) = f (row q k) := by
  obtain ⟨h0, h1⟩ := bucket_range _ h.1 h.2
  have hrow : ((row q k).val : Int) = (bucket (distance q k)).toInt := by
    unfold row
    dsimp only
    omega
  have hz : ∀ v : BitVec 1, FloatOps.uitofp (F := Ideal) FTy.f32 v = ((v.toNat : ℝ) : EReal) := fun _ => rfl
  have heq : ∀ x : Fin 32, IntOp.cmpi CmpIPredicate.eq (bucket (distance q k)) (BitVec.ofNat 32 x.val) = if x = row q k then 1#1 else 0#1 := fun x => by
    have hx : (BitVec.ofNat 32 x.val).toInt = (x.val : Int) := toInt_ofNat _ (by omega)
    unfold IntOp.cmpi
    by_cases e : x = row q k
    · rw [if_pos e]
      have : bucket (distance q k) = BitVec.ofNat 32 x.val := BitVec.eq_of_toInt_eq (by rw [hx, e, hrow])
      simp [this]
    · rw [if_neg e]
      have : bucket (distance q k) ≠ BitVec.ofNat 32 x.val := fun e' => e (Fin.ext (by
        have := congrArg BitVec.toInt e'
        omega))
      show BitVec.ofBool (bucket (distance q k) == BitVec.ofNat 32 x.val) = 0#1
      rw [beq_eq_false_iff_ne.2 this]
      rfl
  rw [Finset.sum_eq_single (row q k)]
  · rw [heq, if_pos rfl, hz]
    simp
  · intro x _ hx
    rw [heq, if_neg hx, hz]
    simp
  · exact fun h => absurd (Finset.mem_univ _) h

end Cert.Relative

end
-- ==== Proof.AttnTable.lean ====
/- The attention's table of biases, as the program computes it before the launch, read at an index. -/
module

public import proofs.«01_k».proof.Proof.Gen.KernelIdeal.Value
public import Idealize.ShloMosaic.Lib.StableHlo.ReadAt
public import Idealize.ShloMosaic.Lib.Pointwise
public import proofs.«01_k».proof.Proof.AttnBias
public import proofs.«01_k».proof.Proof.AttnRead

@[expose] public section

noncomputable section

namespace Cert.KernelIdeal.Table

open Cert.KernelIdeal Cert.KernelIdeal.Gen Idealize.ShloMosaic Idealize.ShloMosaic.TcCoe Idealize.SL.Sem

variable (m : (ℓ : Loc nD τ sig) → Buf (Elt Ideal) ℓ) (c : Dev nD)

/-- The sinks the grid finds are the sinks as launched. -/
theorem sinks_apply (h : Fin 16) : (V m c main_v0 : Vec Ideal S16 .f32) (ix1 h) = (m ((c : Thread nD τ).loc main_arg1) : Vec Ideal S1x16 .f32) (ix2 0 h) := by
  unfold V
  after_reads_at

/-- The relative bias, as launched. -/
abbrev bias : Vec Ideal S32x16 .f32 := m ((c : Thread nD τ).loc main_arg2)

/-- One entry of the bias table as the program spells it: the window's mask over the one-hot contraction. -/
def printed (h : Fin 16) (q : Fin 128) (k : Fin 256) : EReal :=
  Scalar.select
    (IntOp.andi (IntOp.cmpi CmpIPredicate.sge (Relative.distance q.val k.val) 0#32)
      (IntOp.cmpi CmpIPredicate.slt (Relative.distance q.val k.val) 128#32))
    (∑ x : Fin 32, bias m c (ix2 x h)
      * FloatOps.uitofp (F := Ideal) FTy.f32 (IntOp.cmpi CmpIPredicate.eq (Relative.bucket (Relative.distance q.val k.val)) (BitVec.ofNat 32 x.val)))
    (Ideal.ofBits .f32 0xFF800000#32)

set_option maxHeartbeats 1000000 in
/-- The bias table the grid finds, as the program spells it. -/
theorem table_printed (w : Fin 2) (h : Fin 16) (q : Fin 128) (k : Fin 256) :
    (V m c main_v51 : Vec Ideal S2x16x128x256 .f32) (ix4 w h q k)
      = if w.val < 1 then printed m c h q k
        else Scalar.select (IntOp.cmpi CmpIPredicate.sge (BitVec.ofNat 32 k.val) 128#32) (printed m c h q k) (Ideal.ofBits .f32 0xFF800000#32) := by
  unfold V
  after_reads_at
  rfl

/-- A select on a mask is a choice. -/
theorem select_eq (u : BitVec 1) (x y : EReal) : Scalar.select u x y = if u = 1#1 then x else y := rfl

/-- The entry: the relative bias in the window, minus infinity outside. -/
theorem printed_eq (h : Fin 16) (q : Fin 128) (k : Fin 256) :
    printed m c h q k = if Relative.InWindow q.val k.val then bias m c (ix2 (Relative.row q.val k.val) h) else ⊥ := by
  have hand : ∀ u v : BitVec 1, IntOp.andi u v = 1#1 ↔ u = 1#1 ∧ v = 1#1 := by decide
  have hm : IntOp.andi (IntOp.cmpi CmpIPredicate.sge (Relative.distance q.val k.val) 0#32)
      (IntOp.cmpi CmpIPredicate.slt (Relative.distance q.val k.val) 128#32) = 1#1 ↔ Relative.InWindow q.val k.val := by
    rw [hand, Relative.sge_iff, Relative.slt_iff]
    unfold Relative.InWindow
    simp
  unfold printed
  rw [select_eq]
  by_cases hw : Relative.InWindow q.val k.val
  · rw [if_pos hw, if_pos (hm.2 hw)]
    exact Relative.one_hot (fun x => bias m c (ix2 x h)) q.val k.val hw
  · rw [if_neg hw, if_neg fun e => hw (hm.1 e), Body.ofBits_bottom]

/-- The bias table the grid finds: table 0 for a query block with a block before it, table 1 for the first block of a
sequence, whose keys of the block before are masked. -/
theorem table_apply (w : Fin 2) (h : Fin 16) (q : Fin 128) (k : Fin 256) :
    (V m c main_v51 : Vec Ideal S2x16x128x256 .f32) (ix4 w h q k)
      = if Relative.InWindow q.val k.val ∧ (w.val = 0 ∨ 128 ≤ k.val)
        then bias m c (ix2 (Relative.row q.val k.val) h) else ⊥ := by
  rw [table_printed, printed_eq]
  have hk : IntOp.cmpi CmpIPredicate.sge (BitVec.ofNat 32 k.val) 128#32 = 1#1 ↔ 128 ≤ k.val := by
    rw [Relative.sge_iff, Relative.toInt_ofNat k.val (by omega)]
    show (128 : Int) ≤ _ ↔ _
    omega
  by_cases h0 : w.val < 1
  · rw [if_pos h0]
    have : w.val = 0 := by omega
    simp [this]
  · rw [if_neg h0]
    have h1 : w.val ≠ 0 := by omega
    rw [select_eq]
    by_cases h2 : 128 ≤ k.val
    · rw [if_pos (hk.2 h2)]
      simp [h2]
    · rw [if_neg fun e => h2 (hk.1 e), Body.ofBits_bottom]
      simp [h1, h2]

end Cert.KernelIdeal.Table

end
-- ==== Proof.AttnBlocks.lean ====
/-
  The attention kernel's result array as one function of the arguments: the blocks that a grid point reads, the block that
  it writes back, and the whole array.
-/
module

public import proofs.«01_k».proof.Proof.AttnResult
public import proofs.«01_k».proof.Proof.AttnTable
public import Idealize.ShloMosaic.Lib.Quiescent

@[expose] public section

noncomputable section

namespace Cert.SinkRow

open Idealize.ShloMosaic

/-- The position, in its sequence, of the `k`-th key of query block `n`: the block before and then the block itself. The
first block of a sequence has no block before it, and stands for it itself. -/
def keyAt (n : Fin 16) (k : Fin 256) : Fin 2048 := if 128 ≤ 128 * n.val + k.val then ⟨128 * n.val + k.val - 128, by omega⟩ else ⟨k.val, by omega⟩

/-- A logit: query against scaled key, plus the relative bias in the window and minus infinity outside it. -/
def logit (x : Fin 8 → Fin 2048 → Fin 5376 → EReal) (rel : Fin 32 → Fin 16 → EReal) (b : Fin 8) (n : Fin 16) (q : Fin 128) (g : Fin 2) (a : Fin 8) (k : Fin 256) : EReal :=
  (∑ d : Fin 64, x b ⟨128 * n.val + q.val, by omega⟩ ⟨4096 + (512 * g.val + 64 * a.val + d.val), by omega⟩
      * (x b (keyAt n k) ⟨5120 + (64 * g.val + d.val), by omega⟩ * (((1 : ℝ) / 8 : ℝ) : EReal)))
    + (if Relative.InWindow q.val k.val ∧ 128 ≤ 128 * n.val + k.val then rel (Relative.row q.val k.val) ⟨8 * g.val + a.val, by omega⟩ else ⊥)

/-- The head's result at a query: the row with the division last. -/
def attend (x : Fin 8 → Fin 2048 → Fin 5376 → EReal) (s : Fin 16 → EReal) (rel : Fin 32 → Fin 16 → EReal) (b : Fin 8) (n : Fin 16) (q : Fin 128) (g : Fin 2) (a : Fin 8) (d : Fin 64) : EReal :=
  late (logit x rel b n q g a) (s ⟨8 * g.val + a.val, by omega⟩) (max (top (logit x rel b n q g a)) (s ⟨8 * g.val + a.val, by omega⟩))
    fun k => x b (keyAt n k) ⟨5248 + (64 * g.val + d.val), by omega⟩

end Cert.SinkRow

namespace Cert.KernelIdeal.Table

open Cert.KernelIdeal Cert.KernelIdeal.Gen Cert.KernelIdeal.Body Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The projected activations, as launched. -/
abbrev proj : Vec Ideal S8x2048x5376 .bf16 := m ((c : Thread nD τ).loc main_arg0)
/-- The sinks, as launched. -/
abbrev sinks : Vec Ideal S1x16 .f32 := m ((c : Thread nD τ).loc main_arg1)

/-- The block indices of the windows at every grid point. -/
theorem index_facts : ∀ t : Fin cfg0.N,
    (win0_0.index t (0 : Fin 1) = 0)
    ∧ (win0_1.index t (0 : Fin 3) = t.val / 8 ∧ win0_1.index t (1 : Fin 3) = t.val % 8 ∧ win0_1.index t (2 : Fin 3) = 4)
    ∧ (win0_2.index t (0 : Fin 3) = t.val / 8 ∧ win0_2.index t (1 : Fin 3) = t.val % 8 ∧ win0_2.index t (2 : Fin 3) = 40)
    ∧ (win0_3.index t (0 : Fin 3) = t.val / 8 ∧ win0_3.index t (1 : Fin 3) = t.val % 8 ∧ win0_3.index t (2 : Fin 3) = 41)
    ∧ (win0_4.index t (0 : Fin 3) = t.val / 8 ∧ win0_4.index t (1 : Fin 3) = 2 * (t.val % 8) - 1 ∧ win0_4.index t (2 : Fin 3) = 40)
    ∧ (win0_5.index t (0 : Fin 3) = t.val / 8 ∧ win0_5.index t (1 : Fin 3) = 2 * (t.val % 8) - 1 ∧ win0_5.index t (2 : Fin 3) = 41)
    ∧ (win0_6.index t (0 : Fin 4) = 0 ∧ win0_6.index t (1 : Fin 4) = 0 ∧ win0_6.index t (2 : Fin 4) = 0 ∧ win0_6.index t (3 : Fin 4) = 0)
    ∧ (win0_7.index t (0 : Fin 3) = t.val / 8 ∧ win0_7.index t (1 : Fin 3) = t.val % 8 ∧ win0_7.index t (2 : Fin 3) = 0) :=
  (by decide +kernel : ∀ t : Fin grid0.N, _)

/-- The table that a grid point's first half takes: the masked one at the first block of a sequence. -/
theorem first_facts : ∀ t : Fin cfg0.N, (first (grid0.coords t)).val = if t.val % 8 = 0 then 1 else 0 :=
  (by decide +kernel : ∀ t : Fin grid0.N, _)

/-- Every grid point writes its block back. -/
theorem flush_facts : ∀ t : Fin cfg0.N, (cfg0.win 7).flush t = true :=
  (by decide +kernel : ∀ t : Fin grid0.N, _)

/-- The sinks' block is the sinks. -/
theorem sinks_block (t : Fin cfg0.N) (h : Fin 16) : (iblk m c 0 t : Vec Ideal S16 .f32) (ix1 h) = sinks m c (ix2 0 h) := by
  obtain ⟨e0, -⟩ := index_facts t
  refine Eq.trans ?_ (sinks_apply m c h)
  unfold iblk
  rw [View.read_apply]
  refine congrArg (V m c main_v0) (funext fun a => Fin.ext ?_)
  match a with
  | ⟨0, _⟩ => show win0_0.index t 0 * 16 + 1 * h.val = h.val; rw [e0]; omega

/-- The table's block is the table. -/
theorem table_block (t : Fin cfg0.N) (w : Fin 2) (h : Fin 16) (q : Fin 128) (k : Fin 256) :
    (iblk m c 6 t : Vec Ideal S2x16x128x256 .f32) (ix4 w h q k)
      = if Relative.InWindow q.val k.val ∧ (w.val = 0 ∨ 128 ≤ k.val) then bias m c (ix2 (Relative.row q.val k.val) h) else ⊥ := by
  obtain ⟨-, -, -, -, -, -, ⟨e0, e1, e2, e3⟩, -⟩ := index_facts t
  refine Eq.trans ?_ (table_apply m c w h q k)
  unfold iblk
  rw [View.read_apply]
  refine congrArg (V m c main_v51) (funext fun a => Fin.ext ?_)
  match a with
  | ⟨0, _⟩ => show win0_6.index t 0 * 2 + 1 * w.val = w.val; rw [e0]; omega
  | ⟨1, _⟩ => show win0_6.index t 1 * 16 + 1 * h.val = h.val; rw [e1]; omega
  | ⟨2, _⟩ => show win0_6.index t 2 * 128 + 1 * q.val = q.val; rw [e2]; omega
  | ⟨3, _⟩ => show win0_6.index t 3 * 256 + 1 * k.val = k.val; rw [e3]; omega

/-- The queries' block. -/
theorem query_block (t : Fin cfg0.N) (r : Fin 256) (l : Fin 1024) (b : Fin 8) (p : Fin 2048) (o : Fin 5376)
    (hb : b.val = t.val / 8) (hp : p.val = t.val % 8 * 256 + r.val) (ho : o.val = 4096 + l.val) :
    (X0_1 m c t : Vec Ideal S1x256x1024 .bf16) (ix3 0 r l) = proj m c (ix3 b p o) := by
  obtain ⟨-, ⟨e0, e1, e2⟩, -⟩ := index_facts t
  unfold X0_1 Pipeline.Window.fill
  rw [dif_pos (moved0_1 t _)]
  unfold iblk
  rw [View.read_apply]
  show V m c main_arg0 _ = _
  rw [V_main_arg0]
  refine congrArg (proj m c) (funext fun a => Fin.ext ?_)
  match a with
  | ⟨0, _⟩ => show win0_1.index t 0 * 1 + 1 * 0 = b.val; rw [e0, hb]; omega
  | ⟨1, _⟩ => show win0_1.index t 1 * 256 + 1 * r.val = p.val; rw [e1, hp]; omega
  | ⟨2, _⟩ => show win0_1.index t 2 * 1024 + 1 * l.val = o.val; rw [e2, ho]; omega

/-- The keys' block. -/
theorem key_block (t : Fin cfg0.N) (r : Fin 256) (l : Fin 128) (b : Fin 8) (p : Fin 2048) (o : Fin 5376)
    (hb : b.val = t.val / 8) (hp : p.val = t.val % 8 * 256 + r.val) (ho : o.val = 5120 + l.val) :
    (iblk m c 2 t : Vec Ideal S1x256x128 .bf16) (ix3 0 r l) = proj m c (ix3 b p o) := by
  obtain ⟨-, -, ⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_2.index t 0 * 1 + 1 * 0 = b.val; rw [e0, hb]; omega
  | ⟨1, _⟩ => show win0_2.index t 1 * 256 + 1 * r.val = p.val; rw [e1, hp]; omega
  | ⟨2, _⟩ => show win0_2.index t 2 * 128 + 1 * l.val = o.val; rw [e2, ho]; omega

/-- The values' block. -/
theorem value_block (t : Fin cfg0.N) (r : Fin 256) (l : Fin 128) (b : Fin 8) (p : Fin 2048) (o : Fin 5376)
    (hb : b.val = t.val / 8) (hp : p.val = t.val % 8 * 256 + r.val) (ho : o.val = 5248 + l.val) :
    (iblk m c 3 t : Vec Ideal S1x256x128 .bf16) (ix3 0 r l) = proj m c (ix3 b p o) := by
  obtain ⟨-, -, -, ⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_3.index t 0 * 1 + 1 * 0 = b.val; rw [e0, hb]; omega
  | ⟨1, _⟩ => show win0_3.index t 1 * 256 + 1 * r.val = p.val; rw [e1, hp]; omega
  | ⟨2, _⟩ => show win0_3.index t 2 * 128 + 1 * l.val = o.val; rw [e2, ho]; omega

/-- The block of keys before. -/
theorem key_before (t : Fin cfg0.N) (r : Fin 128) (l : Fin 128) (b : Fin 8) (p : Fin 2048) (o : Fin 5376)
    (hb : b.val = t.val / 8) (hp : p.val = (2 * (t.val % 8) - 1) * 128 + r.val) (ho : o.val = 5120 + l.val) :
    (iblk m c 4 t : Vec Ideal S1x128x128 .bf16) (ix3 0 r l) = proj m c (ix3 b p o) := by
  obtain ⟨-, -, -, -, ⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_4.index t 0 * 1 + 1 * 0 = b.val; rw [e0, hb]; omega
  | ⟨1, _⟩ => show win0_4.index t 1 * 128 + 1 * r.val = p.val; rw [e1, hp]; omega
  | ⟨2, _⟩ => show win0_4.index t 2 * 128 + 1 * l.val = o.val; rw [e2, ho]; omega

/-- The block of values before. -/
theorem value_before (t : Fin cfg0.N) (r : Fin 128) (l : Fin 128) (b : Fin 8) (p : Fin 2048) (o : Fin 5376)
    (hb : b.val = t.val / 8) (hp : p.val = (2 * (t.val % 8) - 1) * 128 + r.val) (ho : o.val = 5248 + l.val) :
    (iblk m c 5 t : Vec Ideal S1x128x128 .bf16) (ix3 0 r l) = proj m c (ix3 b p o) := by
  obtain ⟨-, -, -, -, -, ⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_5.index t 0 * 1 + 1 * 0 = b.val; rw [e0, hb]; omega
  | ⟨1, _⟩ => show win0_5.index t 1 * 128 + 1 * r.val = p.val; rw [e1, hp]; omega
  | ⟨2, _⟩ => show win0_5.index t 2 * 128 + 1 * l.val = o.val; rw [e2, ho]; omega

/-- The projected activations by batch, position and column. -/
def projAt (b : Fin 8) (p : Fin 2048) (o : Fin 5376) : EReal := proj m c (ix3 b p o)
/-- The sinks by head. -/
def sinkAt (h : Fin 16) : EReal := sinks m c (ix2 0 h)
/-- The relative bias by bucket and head. -/
def biasAt (r : Fin 32) (h : Fin 16) : EReal := bias m c (ix2 r h)

/-- A grid point's logits. -/
theorem logits_point (t : Fin cfg0.N) (w j g : Fin 2) (a : Fin 8) (q : Fin 128) (k : Fin 256) (b : Fin 8) (n : Fin 16)
    (hb : b.val = t.val / 8) (hn : n.val = 2 * (t.val % 8) + j.val) (hw : w.val = if n.val = 0 then 1 else 0) :
    logitsOf (X0_1 m c t) (iblk m c 2 t) (iblk m c 4 t) (iblk m c 6 t) w j g a (ix2 q k)
      = SinkRow.logit (projAt m c) (biasAt m c) b n q g a k := by
  rw [logitsOf_apply, table_block]
  unfold SinkRow.logit
  refine congr (congrArg HAdd.hAdd (Finset.sum_congr rfl fun d _ => ?_)) ?_
  · refine congr (congrArg HMul.hMul ?_) (congrArg (· * _) ?_)
    · exact query_block m c t _ _ b _ _ hb (by dsimp only; omega) (by dsimp only)
    · unfold SinkRow.keyAt
      by_cases h : 128 * j.val + k.val < 128
      · rw [dif_pos h]
        refine key_before m c t _ _ b _ _ hb ?_ (by dsimp only)
        split <;> (dsimp only; omega)
      · rw [dif_neg h, if_pos (by omega)]
        exact key_block m c t _ _ b _ _ hb (by dsimp only; omega) (by dsimp only)
  · refine if_congr (and_congr_right fun _ => ?_) rfl rfl
    split at hw <;> omega

/-- A grid point's results. -/
theorem result_point (t : Fin cfg0.N) (w j g : Fin 2) (a : Fin 8) (q : Fin 128) (d : Fin 64) (b : Fin 8) (n : Fin 16)
    (hb : b.val = t.val / 8) (hn : n.val = 2 * (t.val % 8) + j.val) (hw : w.val = if n.val = 0 then 1 else 0) :
    resultOf (iblk m c 0 t) (X0_1 m c t) (iblk m c 2 t) (iblk m c 3 t) (iblk m c 4 t) (iblk m c 5 t) (iblk m c 6 t) w j g a (ix2 q d)
      = SinkRow.attend (projAt m c) (sinkAt m c) (biasAt m c) b n q g a d := by
  rw [resultOf_apply, sinks_block]
  have hl : (fun k : Fin 256 => logitsOf (X0_1 m c t) (iblk m c 2 t) (iblk m c 4 t) (iblk m c 6 t) w j g a (ix2 q k))
      = SinkRow.logit (projAt m c) (biasAt m c) b n q g a := funext fun k => logits_point m c t w j g a q k b n hb hn hw
  rw [hl]
  refine congrArg (SinkRow.late _ _ _) (funext fun k => ?_)
  unfold SinkRow.keyAt
  by_cases h : 128 * j.val + k.val < 128
  · rw [dif_pos h]
    refine value_before m c t _ _ b _ _ hb ?_ (by dsimp only)
    split <;> (dsimp only; omega)
  · rw [dif_neg h, if_pos (by omega)]
    exact value_block m c t _ _ b _ _ hb (by dsimp only; omega) (by dsimp only)

/-- The result at batch, position and column. -/
def entry (b : Fin 8) (p : Fin 2048) (o : Fin 1024) : EReal :=
  SinkRow.attend (projAt m c) (sinkAt m c) (biasAt m c) b ⟨p.val / 128, by omega⟩ ⟨p.val % 128, by omega⟩ ⟨o.val / 512, by omega⟩
    ⟨o.val % 512 / 64, by omega⟩ ⟨o.val % 64, by omega⟩

/-- The array the result is shown to hold. -/
abbrev attended : Vec Ideal S8x2048x1024 .bf16 := fun i => entry m c (i 0) (i 1) (i 2)

/-- A grid point's block at an index is the result's entry below it. -/
theorem block_entry (t : Fin cfg0.N) (y : S1x256x1024.Idx) (b : Fin 8) (p : Fin 2048) (o : Fin 1024)
    (hb : b.val = t.val / 8) (hp : p.val = t.val % 8 * 256 + (y 1).val) (ho : o.val = (y 2).val) :
    blockOf (iblk m c 0 t) (X0_1 m c t) (iblk m c 2 t) (iblk m c 3 t) (iblk m c 4 t) (iblk m c 5 t) (iblk m c 6 t) (first (grid0.coords t)) y
      = entry m c b p o := by
  have y1 : (y 1).val < 256 := (y 1).isLt
  have y2 : (y 2).val < 1024 := (y 2).isLt
  have hf := first_facts t
  unfold blockOf entry
  rw [result_point m c t _ _ _ _ _ _ b ⟨p.val / 128, by omega⟩ hb (by dsimp only; omega) ?_]
  · have e1 : (⟨(y 1).val % 128, by omega⟩ : Fin 128) = ⟨p.val % 128, by omega⟩ := Fin.ext (by dsimp only; omega)
    have e2 : (⟨(y 2).val / 512, by omega⟩ : Fin 2) = ⟨o.val / 512, by omega⟩ := Fin.ext (by dsimp only; omega)
    have e3 : (⟨(y 2).val % 512 / 64, by omega⟩ : Fin 8) = ⟨o.val % 512 / 64, by omega⟩ := Fin.ext (by dsimp only; omega)
    have e4 : (⟨(y 2).val % 64, by omega⟩ : Fin 64) = ⟨o.val % 64, by omega⟩ := Fin.ext (by dsimp only; omega)
    rw [e1, e2, e3, e4]
  · dsimp only
    split
    · rw [hf]
      split <;> split <;> omega
    · split
      · omega
      · rfl

/-- The result's index under a block's index, axis by axis. -/
theorem under_batch (t : Fin cfg0.N) (y : S1x256x1024.Idx) : (((cfg0.win 7).blk t).view.emb y 0).val = t.val / 8 := by
  obtain ⟨-, -, -, -, -, -, -, ⟨e0, e1, e2⟩⟩ := index_facts t
  have hy : (y 0).val < 1 := (y 0).isLt
  show win0_7.index t (0 : Fin 3) * 1 + 1 * (y 0).val = _
  rw [e0]
  omega

/-- Its position. -/
theorem under_row (t : Fin cfg0.N) (y : S1x256x1024.Idx) : (((cfg0.win 7).blk t).view.emb y 1).val = t.val % 8 * 256 + (y 1).val := by
  obtain ⟨-, -, -, -, -, -, -, ⟨e0, e1, e2⟩⟩ := index_facts t
  show win0_7.index t (1 : Fin 3) * 256 + 1 * (y 1).val = _
  rw [e1]
  omega

/-- Its column. -/
theorem under_col (t : Fin cfg0.N) (y : S1x256x1024.Idx) : (((cfg0.win 7).blk t).view.emb y 2).val = (y 2).val := by
  obtain ⟨-, -, -, -, -, -, -, ⟨e0, e1, e2⟩⟩ := index_facts t
  show win0_7.index t (2 : Fin 3) * 1024 + 1 * (y 2).val = _
  rw [e2]
  omega

/-- What a grid point writes back is its block of the result. -/
theorem flushed_eq (t : Fin cfg0.N) :
    (dats m 0 c).flushed 7 t = ((cfg0.win 7).blk t).view.read (Elt Ideal) (attended m c) := by
  rw [Value.flushed7_A]
  funext y
  exact (out_eq (iblk m c 0 t) (X0_1 m c t) (iblk m c 2 t) (iblk m c 3 t) (iblk m c 4 t) (iblk m c 5 t) (iblk m c 6 t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) y).trans
    (block_entry m c t y (((cfg0.win 7).blk t).view.emb y 0) (((cfg0.win 7).blk t).view.emb y 1) (((cfg0.win 7).blk t).view.emb y 2)
      (under_batch t y) (under_row t y) (under_col t y))

/-- Every index of the result lies in the block of the grid point that its batch and position name. -/
theorem covered (i : S8x2048x1024.Idx) : ∃ t : Fin cfg0.N, (cfg0.win 7).flush t = true ∧ i ∈ ((cfg0.win 7).blk t).view.set := by
  have hN : cfg0.N = 64 := N_0
  have i0 : (i 0).val < 8 := (i 0).isLt
  have i1 : (i 1).val < 2048 := (i 1).isLt
  have i2 : (i 2).val < 1024 := (i 2).isLt
  let t : Fin cfg0.N := ⟨8 * (i 0).val + (i 1).val / 256, by omega⟩
  let y : S1x256x1024.Idx := ix3 0 ⟨(i 1).val % 256, by omega⟩ ⟨(i 2).val, by omega⟩
  have ht : t.val = 8 * (i 0).val + (i 1).val / 256 := rfl
  have e : ((cfg0.win 7).blk t).view.emb y = i := funext fun a => Fin.ext (by
    match a with
    | ⟨0, _⟩ => exact (under_batch t y).trans (by show t.val / 8 = (i 0).val; omega)
    | ⟨1, _⟩ => exact (under_row t y).trans (by show t.val % 8 * 256 + (i 1).val % 256 = (i 1).val; omega)
    | ⟨2, _⟩ => exact under_col t y)
  exact ⟨t, flush_facts t, e ▸ ((cfg0.win 7).blk t).view.emb_mem_set y⟩

/-- So the result array ends holding the attention: its blocks tile it. -/
theorem final_eq : (dats m 0 c).arrAt 7 cfg0.N = attended m c :=
  (dats m 0 c).arrAt_eq_of_cover 7 _ (fun t _ => flushed_eq m c t) covered

/-- The run: the result array at the attention, the arguments unchanged. -/
theorem run : θ_run defs (onTc (τ := τ) (main (F := Ideal))) ⟨m, fun _ => 0, ρ⟩ fun r => ∀ c : Dev nD,
      r.2.mem ((c : Thread nD τ).loc main_v52) = attended m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.KernelIdeal.Table

end
-- ==== Proof.AttnRef.lean ====
/- The attention's reference read at an index over the extended reals. -/
module

public import proofs.«01_k».proof.Proof.Gen.ReferenceIdeal.Read
public import Idealize.ShloMosaic.Lib.Pointwise
public import Idealize.ShloMosaic.Lib.IdealHost

@[expose] public section

noncomputable section

namespace Cert.ReferenceIdeal.Attention

open Cert.ReferenceIdeal Cert.ReferenceIdeal.Read Idealize.ShloMosaic Idealize.ShloMosaic.TcCoe Idealize.SL.Sem

variable (x : Vec Ideal S8x2048x5376 .bf16) (s : Vec Ideal S1x16 .f32) (rel : Vec Ideal S32x16 .f32)

/-- The queries, split into blocks and heads. -/
theorem query_apply (b : Fin 8) (n : Fin 16) (q : Fin 128) (g : Fin 2) (a : Fin 8) (d : Fin 64) :
    val_main_v8 (F := Ideal) x (ix6 b n q g a d)
      = x (ix3 b ⟨128 * n.val + q.val, by omega⟩ ⟨4096 + (512 * g.val + 64 * a.val + d.val), by omega⟩) := by
  pointwise [val_main_v8, val_main_v2, val_main_v1, val_main_v0]
  exact congrArg x (congr (congrArg (ix3 b) (Fin.ext (by dsimp only; omega))) (Fin.ext (by dsimp only; omega)))

/-- The keys of a query block: the block before and the block itself, zero before the sequence. -/
theorem key_apply (b : Fin 8) (n : Fin 16) (k : Fin 256) (g : Fin 2) (d : Fin 64) :
    val_main_v14 (F := Ideal) x (ix5 b n k g d)
      = if h : 128 ≤ 128 * n.val + k.val then x (ix3 b ⟨128 * n.val + k.val - 128, by omega⟩ ⟨5120 + (64 * g.val + d.val), by omega⟩) else 0 := by
  pointwise [val_main_v14, val_main_v13, val_main_v12, val_main_v11, val_main_v10, val_main_v9, val_main_cst, val_main_v4, val_main_v3, val_main_v0]
  by_cases h : 128 ≤ 128 * n.val + k.val
  · rw [dif_pos h]
    repeat split
    all_goals first | omega | exact congrArg x (congr (congrArg (ix3 b) (Fin.ext (by dsimp only; omega))) (Fin.ext (by dsimp only; omega)))
  · rw [dif_neg h]
    repeat split
    all_goals first | omega | exact Ideal.ofBits_zero_f32 | rfl

/-- The values of a query block, likewise. -/
theorem value_apply (b : Fin 8) (n : Fin 16) (k : Fin 256) (g : Fin 2) (d : Fin 64) :
    val_main_v19 (F := Ideal) x (ix5 b n k g d)
      = if h : 128 ≤ 128 * n.val + k.val then x (ix3 b ⟨128 * n.val + k.val - 128, by omega⟩ ⟨5248 + (64 * g.val + d.val), by omega⟩) else 0 := by
  pointwise [val_main_v19, val_main_v18, val_main_v17, val_main_v16, val_main_v15, val_main_v9, val_main_cst, val_main_v6, val_main_v5, val_main_v0]
  by_cases h : 128 ≤ 128 * n.val + k.val
  · rw [dif_pos h]
    repeat split
    all_goals first | omega | exact congrArg x (congr (congrArg (ix3 b) (Fin.ext (by dsimp only; omega))) (Fin.ext (by dsimp only; omega)))
  · rw [dif_neg h]
    repeat split
    all_goals first | omega | exact Ideal.ofBits_zero_f32 | rfl

/-- The scaled scores. -/
theorem score_apply (b : Fin 8) (n : Fin 16) (g : Fin 2) (a : Fin 8) (q : Fin 128) (k : Fin 256) :
    val_main_v23 (F := Ideal) x (ix6 b n g a q k)
      = (∑ d : Fin 64, val_main_v14 (F := Ideal) x (ix5 b n k g d) * val_main_v8 (F := Ideal) x (ix6 b n q g a d))
        * Ideal.ofBits .f32 0x3E000000#32 := by
  pointwise [val_main_v23, val_main_v22, val_main_v21, val_main_v20, val_main_cst_0]

/-- A row of the softmax's maximum and of its sum: the elements of the long last axis. -/
theorem fiber_last (h : Shape.ReducesTo S8x16x2x8x128x257 [5] S8x16x2x8x128) (b : Fin 8) (n : Fin 16) (g : Fin 2) (a : Fin 8)
    (q : Fin 128) (i : S8x16x2x8x128x257.Idx) : h.drop i = ix5 b n g a q ↔ ∃ k : Fin 257, ix6 b n g a q k = i := by
  constructor
  · intro e
    refine ⟨i 5, ?_⟩
    funext d
    apply Fin.ext
    match d with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext d
    apply Fin.ext
    match d with
    | ⟨0, _⟩ => rfl
    | ⟨1, _⟩ => rfl
    | ⟨2, _⟩ => rfl
    | ⟨3, _⟩ => rfl
    | ⟨4, _⟩ => rfl

/-- A maximum over the last axis, of any array. -/
theorem maximum_last (v : FVec Ideal S8x16x2x8x128x257 .f32) (init : S_.Idx → EReal) (hu : 0 < S_.numel)
    (h : Shape.ReducesTo S8x16x2x8x128x257 [5] S8x16x2x8x128) (b : Fin 8) (n : Fin 16) (g : Fin 2) (a : Fin 8) (q : Fin 128) :
    Host.reduce (FloatOps.maximumf (F := Ideal) (φ := .f32)) v init h hu (ix5 b n g a q)
      = (Finset.univ : Finset (Fin 257)).fold max (init (Shape.Idx.first hu)) (fun k => v (ix6 b n g a q k)) :=
  (Host.reduce_eq_fold (max : EReal → EReal → EReal) v init h hu _).trans
    (Finset.fold_filter_eq_fold_of_fiber max _ (fun k : Fin 257 => ix6 b n g a q k) (fun _ _ e => congrFun e 5)
      (fiber_last h b n g a q) _ v)

/-- A sum over the last axis, of any array. -/
theorem sum_last (v : FVec Ideal S8x16x2x8x128x257 .f32) (init : S_.Idx → EReal) (hu : 0 < S_.numel)
    (h : Shape.ReducesTo S8x16x2x8x128x257 [5] S8x16x2x8x128) (b : Fin 8) (n : Fin 16) (g : Fin 2) (a : Fin 8) (q : Fin 128) :
    Host.reduceAdd (F := Ideal) (φ := .f32) v init h hu (ix5 b n g a q)
      = init (Shape.Idx.first hu) + ∑ k : Fin 257, v (ix6 b n g a q k) :=
  congrArg (init (Shape.Idx.first hu) + ·)
    (Finset.sum_filter_eq_sum_of_fiber _ (fun k : Fin 257 => ix6 b n g a q k) (fun _ _ e => congrFun e 5)
      (fiber_last h b n g a q) v)

/-- The softmax's shift. -/
theorem greatest_apply (b : Fin 8) (n : Fin 16) (g : Fin 2) (a : Fin 8) (q : Fin 128) :
    val_main_v94 (F := Ideal) x s rel (ix5 b n g a q)
      = max (Ideal.ofBits .f32 0xFF800000#32) ((Finset.univ : Finset (Fin 257)).fold max (Ideal.ofBits .f32 0xFF800000#32)
          (fun k => val_main_v91 (F := Ideal) x s rel (ix6 b n g a q k))) := by
  rw [val_main_v94_apply]
  unfold val_main_v92
  rw [maximum_last]
  pointwise [val_main_v93, val_main_cst_18, val_main_cst_17]

/-- The softmax's weights before the division. -/
theorem weight_apply (b : Fin 8) (n : Fin 16) (g : Fin 2) (a : Fin 8) (q : Fin 128) (k : Fin 257) :
    val_main_v98 (F := Ideal) x s rel (ix6 b n g a q k)
      = Ideal.exp (val_main_v91 (F := Ideal) x s rel (ix6 b n g a q k) - val_main_v94 (F := Ideal) x s rel (ix5 b n g a q)) := by
  pointwise [val_main_v98, val_main_v97, val_main_v96, val_main_v95]

/-- Their sum. -/
theorem total_apply (b : Fin 8) (n : Fin 16) (g : Fin 2) (a : Fin 8) (q : Fin 128) :
    val_main_v99 (F := Ideal) x s rel (ix5 b n g a q)
      = ∑ k : Fin 257, val_main_v98 (F := Ideal) x s rel (ix6 b n g a q k) := by
  unfold val_main_v99
  rw [sum_last, val_main_cst_19_apply]
  exact (congrArg (· + _) Ideal.ofBits_zero_f32).trans (zero_add _)

/-- The softmax's weights, without the sink's. -/
theorem share_apply (b : Fin 8) (n : Fin 16) (g : Fin 2) (a : Fin 8) (q : Fin 128) (k : Fin 256) :
    val_main_v103 (F := Ideal) x s rel (ix6 b n g a q k)
      = Ideal.div (val_main_v98 (F := Ideal) x s rel (ix6 b n g a q ⟨k.val, by omega⟩)) (val_main_v99 (F := Ideal) x s rel (ix5 b n g a q)) := by
  pointwise [val_main_v103, val_main_v102, val_main_v101, val_main_v100]

/-- The result: the weights contracted with the values. -/
theorem result_apply (b : Fin 8) (n : Fin 16) (q : Fin 128) (g : Fin 2) (a : Fin 8) (d : Fin 64) :
    val_main_v107 (F := Ideal) x s rel (ix3 b ⟨128 * n.val + q.val, by omega⟩ ⟨512 * g.val + 64 * a.val + d.val, by omega⟩)
      = ∑ k : Fin 256, val_main_v19 (F := Ideal) x (ix5 b n k g d) * val_main_v103 (F := Ideal) x s rel (ix6 b n g a q k) := by
  pointwise [val_main_v107, val_main_v106, val_main_v105, val_main_v104]

/-- The logits: score and bias where the key may be attended to, minus infinity elsewhere. -/
theorem logit_apply (b : Fin 8) (n : Fin 16) (g : Fin 2) (a : Fin 8) (q : Fin 128) (k : Fin 256) :
    val_main_v91 (F := Ideal) x s rel (ix6 b n g a q ⟨k.val, by omega⟩)
      = Scalar.select (val_main_v83 (F := Ideal) (ix3 n q k))
          (val_main_v23 (F := Ideal) x (ix6 b n g a q k) + val_main_v61 (F := Ideal) rel (ix4 g a q k)) (Ideal.ofBits .f32 0xFF800000#32) := by
  pointwise [val_main_v91, val_main_v88, val_main_v87, val_main_v86, val_main_v85, val_main_v84, val_main_call1_v0, val_main_call1_v1, val_main_call1_v2, val_main_cst_16]
  rfl

/-- The last logit is the sink. -/
theorem sink_apply (b : Fin 8) (n : Fin 16) (g : Fin 2) (a : Fin 8) (q : Fin 128) :
    val_main_v91 (F := Ideal) x s rel (ix6 b n g a q ⟨256, by omega⟩) = s (ix2 0 ⟨8 * g.val + a.val, by omega⟩) := by
  pointwise [val_main_v91, val_main_v90, val_main_v89, val_main_v7]
  exact congrArg s (congrArg (ix2 0) (Fin.ext (by dsimp only; omega)))

end Cert.ReferenceIdeal.Attention

end
-- ==== Proof.AttnRefBias.lean ====
/- The attention's reference: its mask and its biases read at an index. -/
module

public import proofs.«01_k».proof.Proof.Gen.ReferenceIdeal.Read
public import Idealize.ShloMosaic.Lib.Pointwise
public import Idealize.ShloMosaic.Lib.IdealHost
public import proofs.«01_k».proof.Proof.AttnBias

@[expose] public section

noncomputable section

namespace Cert.ReferenceIdeal.Attention

open Cert.ReferenceIdeal Cert.ReferenceIdeal.Read Idealize.ShloMosaic Idealize.ShloMosaic.TcCoe Idealize.SL.Sem

variable (rel : Vec Ideal S32x16 .f32)

/-- The reference's distance of a query and a key. -/
theorem distance_apply (q : Fin 128) (k : Fin 256) :
    val_main_v32 (F := Ideal) (ix2 q k) = Relative.distance q.val k.val := by
  pointwise [val_main_v32, val_main_v31, val_main_v30, val_main_v29, val_main_v28, val_main_v27, val_main_v26, val_main_v25, val_main_v24, val_main_c]
  rfl

/-- The reference's bucket of that distance. -/
theorem bucket_apply (q : Fin 128) (k : Fin 256) :
    val_main_v52 (F := Ideal) (ix2 q k) = Relative.bucket (Relative.distance q.val k.val) := by
  rw [← distance_apply]
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_c_1, val_main_c_2, val_main_cst_3, val_main_cst_4, val_main_cst_5, val_main_c_6, val_main_c_7, val_main_c_8]
  rfl

/-- A row taken from the bias table: the row that the index names, held inside the table. -/
theorem take_apply (idx : IVec S128x256x1 32) (q : Fin 128) (k : Fin 256) (h : Fin 16) :
    Host.gather gather_S32x16_S128x256x1_S128x256x16_2_0_n_n_0_2_116 rel idx (ix3 q k h)
      = rel (ix2 ⟨min (idx (ix3 q k 0)).toInt.toNat 31, by omega⟩ h) := by
  unfold Host.gather
  congr 1
  funext d
  apply Fin.ext
  match d with
  | ⟨0, _⟩ =>
    show min (idx _).toInt.toNat 31 = min (idx (ix3 q k 0)).toInt.toNat 31
    congr 3
    congr 1
    funext e
    match e with
    | ⟨0, _⟩ => rfl
    | ⟨1, _⟩ => rfl
    | ⟨2, _⟩ => rfl
  | ⟨1, _⟩ =>
    show 0 + 0 + h.val = h.val
    omega

/-- The wrap of a negative index leaves a bucket of at least zero as it is. -/
theorem wrapped_apply (q : Fin 128) (k : Fin 256) (h : 0 ≤ (Relative.bucket (Relative.distance q.val k.val)).toInt) :
    val_main_v58 (F := Ideal) (ix3 q k 0) = Relative.bucket (Relative.distance q.val k.val) := by
  pointwise [val_main_v58, val_main_v57, val_main_v56, val_main_v55, val_main_v54, val_main_v53, val_main_c_9, val_main_c_10]
  rw [bucket_apply]
  simp only [Scalar.select]
  rw [if_neg]
  intro h'
  have := (Relative.slt_iff _ _).1 h'
  simp at this
  omega

/-- The reference's bias: the bucket's row, the head's column. -/
theorem bias_apply (g : Fin 2) (a : Fin 8) (q : Fin 128) (k : Fin 256) (h : 0 ≤ (Relative.bucket (Relative.distance q.val k.val)).toInt) :
    val_main_v61 (F := Ideal) rel (ix4 g a q k)
      = rel (ix2 ⟨min (Relative.bucket (Relative.distance q.val k.val)).toInt.toNat 31, by omega⟩ ⟨8 * g.val + a.val, by omega⟩) := by
  pointwise [val_main_v61, val_main_v60]
  unfold val_main_v59
  refine (take_apply rel (val_main_v58 (F := Ideal)) q k _).trans (congrArg rel (congr (congrArg ix2 (Fin.ext ?_)) (Fin.ext ?_)))
  · show min (val_main_v58 (F := Ideal) (ix3 q k 0)).toInt.toNat 31 = _
    rw [wrapped_apply q k h]
  · dsimp only
    omega

/-- Where the reference lets a query attend to a key. -/
theorem valid_apply (n : Fin 16) (q : Fin 128) (k : Fin 256) :
    val_main_v83 (F := Ideal) (ix3 n q k) = 1#1 ↔ (0 ≤ (Relative.distance q.val k.val).toInt ∧ (Relative.distance q.val k.val).toInt < 128) ∧ 128 ≤ 128 * n.val + k.val := by
  have hv : val_main_v83 (F := Ideal) (ix3 n q k) = IntOp.andi
      (IntOp.andi (IntOp.cmpi CmpIPredicate.sge (val_main_v32 (F := Ideal) (ix2 q k)) 0#32)
        (IntOp.cmpi CmpIPredicate.slt (val_main_v32 (F := Ideal) (ix2 q k)) 128#32))
      (IntOp.cmpi CmpIPredicate.sge
        (IntOp.addi (IntOp.muli (IntOp.subi (BitVec.ofNat 32 n.val) 1#32) 128#32) (BitVec.ofNat 32 k.val)) 0#32) := by
    pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v27, val_main_v26, val_main_c_11, val_main_c_12, val_main_c_13, val_main_c_14, val_main_c_15]
  have hp : (IntOp.addi (IntOp.muli (IntOp.subi (BitVec.ofNat 32 n.val) 1#32) 128#32) (BitVec.ofNat 32 k.val)).toInt
      = ((n.val : Int) - 1) * 128 + (k.val : Int) := by
    have hn := n.isLt
    have hk := k.isLt
    have e : IntOp.addi (IntOp.muli (IntOp.subi (BitVec.ofNat 32 n.val) 1#32) 128#32) (BitVec.ofNat 32 k.val)
        = BitVec.ofInt 32 (((n.val : Int) - 1) * 128 + (k.val : Int)) := by
      unfold IntOp.addi IntOp.muli IntOp.subi
      apply BitVec.eq_of_toInt_eq
      simp [BitVec.toInt_sub, BitVec.toInt_add, BitVec.toInt_mul, BitVec.toInt_ofInt, Relative.toInt_ofNat n.val (by omega), Relative.toInt_ofNat k.val (by omega)]
    rw [e, BitVec.toInt_ofInt]
    exact Int.bmod_eq_of_le (by omega) (by omega)
  have hand : ∀ u v : BitVec 1, IntOp.andi u v = 1#1 ↔ u = 1#1 ∧ v = 1#1 := by decide
  rw [hv, hand, hand, distance_apply, Relative.sge_iff, Relative.slt_iff, Relative.sge_iff, hp]
  simp
  omega

end Cert.ReferenceIdeal.Attention

end
-- ==== Proof.Attention.lean ====
/-
  The attention: the kernel and the reference end with equal results over the extended reals, from finite queries, keys,
  sinks and biases. The kernel divides a head's weighted values by the weights' sum; the reference divides the weights
  first. Both rows have the same logits, the same shift and the same sink.
-/
module

public import proofs.«01_k».proof.Defs
public import proofs.«01_k».proof.Proof.AttnBlocks
public import proofs.«01_k».proof.Proof.AttnRef
public import proofs.«01_k».proof.Proof.AttnRefBias
public import proofs.«01_k».proof.Proof.Gen.ReferenceIdeal.Run
public import Idealize.ShloMosaic.Lib.ReduceAll
public import Idealize.ShloMosaic.Lib.Claim

@[expose] public section

noncomputable section

namespace Cert.SinkRow

open Idealize.ShloMosaic

/-- A finite sum of real numbers is a real number. -/
theorem sum_coe {n : Nat} (f : Fin n → EReal) (h : ∀ k, ∃ r : ℝ, f k = (r : EReal)) : ∃ r : ℝ, ∑ k, f k = (r : EReal) := by
  induction (Finset.univ : Finset (Fin n)) using Finset.cons_induction with
  | empty => exact ⟨0, by simp⟩
  | cons a t ha ih =>
    obtain ⟨u, hu⟩ := ih
    obtain ⟨v, hv⟩ := h a
    exact ⟨v + u, by rw [Finset.sum_cons, hu, hv, EReal.coe_add]⟩

variable (x : Fin 8 → Fin 2048 → Fin 5376 → EReal) (s : Fin 16 → EReal) (rel : Fin 32 → Fin 16 → EReal)
  (b : Fin 8) (n : Fin 16) (q : Fin 128) (g : Fin 2) (a : Fin 8)

/-- A logit of finite queries, keys and biases is not plus infinity. -/
theorem logit_ne_top (hx : ∀ (b : Fin 8) (p : Fin 2048) (o : Fin 5376), 4096 ≤ o.val → o.val < 5248 → ∃ r : ℝ, x b p o = (r : EReal))
    (hr : ∀ r h, rel r h ≠ ⊤) (k : Fin 256) : logit x rel b n q g a k ≠ ⊤ := by
  unfold logit
  obtain ⟨u, hu⟩ := sum_coe (fun d : Fin 64 => x b ⟨128 * n.val + q.val, by omega⟩ ⟨4096 + (512 * g.val + 64 * a.val + d.val), by omega⟩
      * (x b (keyAt n k) ⟨5120 + (64 * g.val + d.val), by omega⟩ * (((1 : ℝ) / 8 : ℝ) : EReal))) fun d => by
    obtain ⟨y, hy⟩ := hx b ⟨128 * n.val + q.val, by omega⟩ ⟨4096 + (512 * g.val + 64 * a.val + d.val), by omega⟩ (by dsimp only; omega) (by dsimp only; omega)
    obtain ⟨z, hz⟩ := hx b (keyAt n k) ⟨5120 + (64 * g.val + d.val), by omega⟩ (by dsimp only; omega) (by dsimp only; omega)
    exact ⟨y * (z * (1 / 8)), by rw [hy, hz, ← EReal.coe_mul, ← EReal.coe_mul]⟩
  rw [hu]
  refine EReal.add_ne_top (EReal.coe_ne_top u) ?_
  split
  · exact hr _ _
  · exact bot_ne_top

/-- A logit outside the window, or of a key before the sequence, is minus infinity. -/
theorem logit_masked (k : Fin 256) (h : ¬(Relative.InWindow q.val k.val ∧ 128 ≤ 128 * n.val + k.val)) : logit x rel b n q g a k = ⊥ := by
  unfold logit
  rw [if_neg h, EReal.add_bot]

end Cert.SinkRow

namespace Cert.ReferenceIdeal.Attention

open Cert.ReferenceIdeal Cert.ReferenceIdeal.Read Idealize.ShloMosaic

variable (x : Vec Ideal S8x2048x5376 .bf16) (s : Vec Ideal S1x16 .f32) (rel : Vec Ideal S32x16 .f32)

/-- The f32 pattern of one eighth. -/
theorem ofBits_eighth : Ideal.ofBits .f32 0x3E000000#32 = (((1 : ℝ) / 8 : ℝ) : EReal) := by
  simp [Ideal.ofBits, Ideal.ieee, -EReal.coe_mul]
  norm_num

/-- The reference's logits. -/
theorem logit_eq (b : Fin 8) (n : Fin 16) (g : Fin 2) (a : Fin 8) (q : Fin 128) (k : Fin 256) :
    val_main_v91 (F := Ideal) x s rel (ix6 b n g a q ⟨k.val, by omega⟩)
      = SinkRow.logit (fun b p o => x (ix3 b p o)) (fun r h => rel (ix2 r h)) b n q g a k := by
  rw [logit_apply, Cert.KernelIdeal.Table.select_eq]
  by_cases h : Relative.InWindow q.val k.val ∧ 128 ≤ 128 * n.val + k.val
  · rw [if_pos ((valid_apply n q k).2 h), score_apply, ofBits_eighth, SinkRow.sum_mul_pos _ _ (by norm_num),
      bias_apply rel g a q k (Relative.bucket_range _ h.1.1 h.1.2).1]
    unfold SinkRow.logit
    rw [if_pos h]
    refine congr (congrArg HAdd.hAdd (Finset.sum_congr rfl fun d _ => ?_)) rfl
    rw [key_apply, query_apply, dif_pos h.2, mul_comm (x _), mul_assoc]
    unfold SinkRow.keyAt
    rw [if_pos h.2]
  · rw [if_neg fun e => h ((valid_apply n q k).1 e), SinkRow.logit_masked _ _ b n q g a k h]
    exact Cert.KernelIdeal.Body.ofBits_bottom

/-- The reference's shift: the greatest of the logits and the sink. -/
theorem shift_eq (b : Fin 8) (n : Fin 16) (g : Fin 2) (a : Fin 8) (q : Fin 128) :
    val_main_v94 (F := Ideal) x s rel (ix5 b n g a q)
      = max (SinkRow.top (SinkRow.logit (fun b p o => x (ix3 b p o)) (fun r h => rel (ix2 r h)) b n q g a)) (s (ix2 0 ⟨8 * g.val + a.val, by omega⟩)) := by
  rw [greatest_apply, Cert.KernelIdeal.Body.ofBits_bottom, max_eq_right bot_le]
  refine (SinkRow.top_succ (fun k : Fin 257 => val_main_v91 (F := Ideal) x s rel (ix6 b n g a q k))).trans ?_
  exact congr (congrArg max (congrArg SinkRow.top (funext fun k => logit_eq x s rel b n g a q k))) (sink_apply x s rel b n g a q)

/-- The reference's sum of weights, the sink's among them. -/
theorem sum_eq (b : Fin 8) (n : Fin 16) (g : Fin 2) (a : Fin 8) (q : Fin 128) :
    val_main_v99 (F := Ideal) x s rel (ix5 b n g a q)
      = (∑ k : Fin 256, val_main_v98 (F := Ideal) x s rel (ix6 b n g a q ⟨k.val, by omega⟩))
        + val_main_v98 (F := Ideal) x s rel (ix6 b n g a q ⟨256, by omega⟩) := by
  rw [total_apply]
  exact Fin.sum_univ_castSucc (fun k : Fin 257 => val_main_v98 (F := Ideal) x s rel (ix6 b n g a q k))

/-- The reference's result: the row with the division first. -/
theorem result_eq (b : Fin 8) (n : Fin 16) (q : Fin 128) (g : Fin 2) (a : Fin 8) (d : Fin 64) :
    val_main_v107 (F := Ideal) x s rel (ix3 b ⟨128 * n.val + q.val, by omega⟩ ⟨512 * g.val + 64 * a.val + d.val, by omega⟩)
      = SinkRow.early (SinkRow.logit (fun b p o => x (ix3 b p o)) (fun r h => rel (ix2 r h)) b n q g a) (s (ix2 0 ⟨8 * g.val + a.val, by omega⟩))
          (max (SinkRow.top (SinkRow.logit (fun b p o => x (ix3 b p o)) (fun r h => rel (ix2 r h)) b n q g a)) (s (ix2 0 ⟨8 * g.val + a.val, by omega⟩)))
          (fun k => val_main_v19 (F := Ideal) x (ix5 b n k g d)) := by
  rw [result_apply]
  unfold SinkRow.early
  have hw : ∀ k : Fin 256, val_main_v98 (F := Ideal) x s rel (ix6 b n g a q ⟨k.val, by omega⟩) = _ := fun k =>
    (weight_apply x s rel b n g a q ⟨k.val, by omega⟩).trans
      (congrArg Ideal.exp (congr (congrArg HSub.hSub (logit_eq x s rel b n g a q k)) (shift_eq x s rel b n g a q)))
  have hs : val_main_v98 (F := Ideal) x s rel (ix6 b n g a q ⟨256, by omega⟩) = _ :=
    (weight_apply x s rel b n g a q ⟨256, by omega⟩).trans
      (congrArg Ideal.exp (congr (congrArg HSub.hSub (sink_apply x s rel b n g a q)) (shift_eq x s rel b n g a q)))
  refine Finset.sum_congr rfl fun k _ => congrArg (_ * ·) ?_
  rw [share_apply, sum_eq, hs]
  exact congr (congrArg Ideal.div (hw k)) (congrArg (· + _) (Finset.sum_congr rfl fun k _ => hw k))

/-- Where a key is not masked, the reference's value is the value at the key's position. -/
theorem value_eq (b : Fin 8) (n : Fin 16) (k : Fin 256) (g : Fin 2) (d : Fin 64) (h : 128 ≤ 128 * n.val + k.val) :
    val_main_v19 (F := Ideal) x (ix5 b n k g d) = x (ix3 b (SinkRow.keyAt n k) ⟨5248 + (64 * g.val + d.val), by omega⟩) := by
  rw [value_apply, dif_pos h]
  unfold SinkRow.keyAt
  rw [if_pos h]

/-- The reference's result is the attention that the kernel computes. -/
theorem result_attend (hx : ∀ (b : Fin 8) (p : Fin 2048) (o : Fin 5376), 4096 ≤ o.val → o.val < 5248 → ∃ r : ℝ, x (ix3 b p o) = (r : EReal))
    (hs : ∀ h, ∃ r : ℝ, s (ix2 0 h) = (r : EReal)) (hr : ∀ r h, ∃ u : ℝ, rel (ix2 r h) = (u : EReal))
    (b : Fin 8) (n : Fin 16) (q : Fin 128) (g : Fin 2) (a : Fin 8) (d : Fin 64) :
    val_main_v107 (F := Ideal) x s rel (ix3 b ⟨128 * n.val + q.val, by omega⟩ ⟨512 * g.val + 64 * a.val + d.val, by omega⟩)
      = SinkRow.attend (fun b p o => x (ix3 b p o)) (fun h => s (ix2 0 h)) (fun r h => rel (ix2 r h)) b n q g a d := by
  have hl : ∀ k, SinkRow.logit (fun b p o => x (ix3 b p o)) (fun r h => rel (ix2 r h)) b n q g a k ≠ ⊤ :=
    SinkRow.logit_ne_top _ _ b n q g a hx fun r h => by
      obtain ⟨u, hu⟩ := hr r h
      rw [hu]
      exact EReal.coe_ne_top u
  rw [result_eq]
  unfold SinkRow.attend
  dsimp only
  obtain ⟨u, hu⟩ := hs ⟨8 * g.val + a.val, by omega⟩
  rw [hu]
  obtain ⟨m, hm⟩ := SinkRow.peak_real _ (u : EReal) (SinkRow.top_ne_top _ hl) (EReal.coe_ne_top u) (EReal.coe_ne_bot u)
  rw [hm]
  refine (SinkRow.late_eq_early _ u m _ _ hl fun k hk => ?_).symm
  by_cases h : Relative.InWindow q.val k.val ∧ 128 ≤ 128 * n.val + k.val
  · exact (value_eq x b n k g d h.2).symm
  · exact absurd (SinkRow.logit_masked _ _ b n q g a k h) hk

end Cert.ReferenceIdeal.Attention

namespace Cert.AttentionClaims

open Idealize.ShloMosaic Idealize.ShloMosaic.TcCoe Idealize.SL.Sem

/-- A value whose magnitude is below plus infinity is a real number. -/
theorem real_of_below (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  induction a with
  | bot => simp at h
  | coe r => exact ⟨r, rfl⟩
  | top => simp at h

variable [hF : Cert.Pre_finite.Facts]

/-- A scalar has one index. -/
instance : Subsingleton Cert.Pre_finite.S_.Idx := ⟨fun i j => funext fun a => a.elim0⟩

/-- The columns of the queries and keys within the projected activations. -/
theorem slice_apply (x : Vec Ideal Cert.Pre_finite.S8x2048x5376 .bf16) (b : Fin 8) (p : Fin 2048) (l : Fin 1152) :
    extractStridedSlice Cert.Pre_finite.S8x2048x1152 ![0, 0, 4096] x hF.slices_S8x2048x5376_S8x2048x1152_0_0_4096 (ix3 b p l)
      = x (ix3 b p ⟨4096 + l.val, by omega⟩) := by
  pointwise []

/-- What the precondition says: the queries and keys, the sinks and the biases are real numbers. -/
theorem finite_facts (x : Vec Ideal Cert.Pre_finite.S8x2048x5376 .bf16) (s : Vec Ideal Cert.Pre_finite.S1x16 .f32) (rel : Vec Ideal Cert.Pre_finite.S32x16 .f32)
    (h : Cert.Pre_finite.fn (F := Ideal) x s rel = fun _ => 1#1) :
    (∀ (b : Fin 8) (p : Fin 2048) (o : Fin 5376), 4096 ≤ o.val → o.val < 5248 → ∃ r : ℝ, x (ix3 b p o) = (r : EReal))
    ∧ (∀ h, ∃ r : ℝ, s (ix2 0 h) = (r : EReal)) ∧ (∀ r h, ∃ u : ℝ, rel (ix2 r h) = (u : EReal)) := by
  have h0 := congrFun h ix0
  unfold Cert.Pre_finite.fn at h0
  dsimp only at h0
  obtain ⟨h1, hr⟩ := IntOp.andi_eq_one.1 h0
  obtain ⟨hx, hs⟩ := IntOp.andi_eq_one.1 h1
  refine ⟨fun b p o h1 h2 => ?_, fun h => ?_, fun r h => ?_⟩
  · obtain ⟨r, hr⟩ := real_of_below _ (Host.reduce_andi_all _ _ _ _ _ hx (ix3 b p ⟨o.val - 4096, by omega⟩))
    refine ⟨r, Eq.trans (congrArg x (congrArg (ix3 b p) (Fin.ext ?_))) ((slice_apply x b p ⟨o.val - 4096, by omega⟩).symm.trans hr)⟩
    dsimp only
    omega
  · exact real_of_below _ (Host.reduce_andi_all _ _ _ _ _ hs (ix2 0 h))
  · exact real_of_below _ (Host.reduce_andi_all _ _ _ _ _ hr (ix2 r h))

/-- The attention kernel and the reference end with equal results over the extended reals. -/
theorem algebraic : Cert.algebraic_KernelIdeal_ReferenceIdeal_pre_finite := by
  intro m g m' g' hpre hagree
  refine ⟨Cert.KernelIdeal.Table.attended m, Cert.KernelIdeal.Table.run m g, ?_⟩
  refine (θ_run _ _ _).mono (fun r h c => ⟨(h c).1.trans ?_, (h c).2⟩) (Cert.ReferenceIdeal.Value.run m' g')
  obtain ⟨hx, hs, hr⟩ := finite_facts _ _ _ (hpre c)
  obtain ⟨e0, e1, e2⟩ := hagree c
  rw [Cert.ReferenceIdeal.Read.val_main_v107_eq, e0, e1, e2]
  funext i
  have i1 : (i 1).val < 2048 := (i 1).isLt
  have i2 : (i 2).val < 1024 := (i 2).isLt
  have ei : (i : Cert.ReferenceIdeal.S8x2048x1024.Idx) = ix3 (i 0) ⟨128 * ((i 1).val / 128) + (i 1).val % 128, by omega⟩
      ⟨512 * ((i 2).val / 512) + 64 * ((i 2).val % 512 / 64) + (i 2).val % 64, by omega⟩ := funext fun a => Fin.ext (by
    match a with
    | ⟨0, _⟩ => rfl
    | ⟨1, _⟩ => show (i 1).val = 128 * ((i 1).val / 128) + (i 1).val % 128; omega
    | ⟨2, _⟩ => show (i 2).val = 512 * ((i 2).val / 512) + 64 * ((i 2).val % 512 / 64) + (i 2).val % 64; omega)
  exact (congrArg _ ei).trans (Cert.ReferenceIdeal.Attention.result_attend _ _ _ hx hs hr (i 0) ⟨(i 1).val / 128, by omega⟩ ⟨(i 1).val % 128, by omega⟩
    ⟨(i 2).val / 512, by omega⟩ ⟨(i 2).val % 512 / 64, by omega⟩ ⟨(i 2).val % 64, by omega⟩)

end Cert.AttentionClaims

end
-- ==== Proof.OutRunIdeal.lean ====
/- The idealized output projection with its layer norm, run: the kernel body's triple, the token rows it leaves named by their four stored pieces and
   its other results left unnamed, the launch, and the frame. -/
module

public import proofs.«01_k».proof.Proof.Gen.OutProjIdeal.Frame
public import proofs.«01_k».proof.Proof.Gen.OutProjIdeal.Skeleton
public import Idealize.ShloMosaic.Lib.Claim

@[expose] public section

set_option maxRecDepth 16384

noncomputable section

namespace Cert.OutProjIdeal.Run

open Cert.OutProjIdeal Cert.OutProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The first and second thousand rows of the weights, and the whole gain or offset row. -/
abbrev upper : Rect S2048x2048 := Rect.unit (s := S2048x2048) ![0, 0] S1024x2048.size inb_S2048x2048_S1024x2048_0_0
abbrev lower : Rect S2048x2048 := Rect.unit (s := S2048x2048) ![1024, 0] S1024x2048.size inb_S2048x2048_S1024x2048_1024_0
abbrev wholeRow : Rect S1x2048 := Rect.unit (s := S1x2048) ![0, 0] S1x2048.size inb_S1x2048_S1x2048_0_0

/-- Rows 0 … 127 of an attention half, and of the tokens. -/
abbrev half0 : Rect S512x1024 := Rect.unit (s := S512x1024) ![0, 0] S128x1024.size inb_S512x1024_S128x1024_0_0
abbrev rows0 : Rect S512x2048 := Rect.unit (s := S512x2048) ![0, 0] S128x2048.size inb_S512x2048_S128x2048_0_0

/-- Rows 128 … 255 of an attention half, and of the tokens. -/
abbrev half128 : Rect S512x1024 := Rect.unit (s := S512x1024) ![128, 0] S128x1024.size inb_S512x1024_S128x1024_128_0
abbrev rows128 : Rect S512x2048 := Rect.unit (s := S512x2048) ![128, 0] S128x2048.size inb_S512x2048_S128x2048_128_0

/-- Rows 256 … 383 of an attention half, and of the tokens. -/
abbrev half256 : Rect S512x1024 := Rect.unit (s := S512x1024) ![256, 0] S128x1024.size inb_S512x1024_S128x1024_256_0
abbrev rows256 : Rect S512x2048 := Rect.unit (s := S512x2048) ![256, 0] S128x2048.size inb_S512x2048_S128x2048_256_0

/-- Rows 384 … 511 of an attention half, and of the tokens. -/
abbrev half384 : Rect S512x1024 := Rect.unit (s := S512x1024) ![384, 0] S128x1024.size inb_S512x1024_S128x1024_384_0
abbrev rows384 : Rect S512x2048 := Rect.unit (s := S512x2048) ![384, 0] S128x2048.size inb_S512x2048_S128x2048_384_0

/-- The token rows after the body: the four chunks of rows, each the layer norm of its mixed rows, the last store first. -/
def stored (x0 : Vec F S512x1024 .bf16) (x1 : Vec F S512x1024 .bf16) (x2 : Vec F S2048x2048 .bf16) (x3 : Vec F S512x2048 .f32) (x4 : Vec F S1x2048 .f32) (x5 : Vec F S1x2048 .f32) : Vec F S512x2048 .f32 :=
  View.canon [⟨rows384, k0_pay5 (k0_pay1 (View.ld x0 half384) (View.ld x2 upper) (View.ld x1 half384) (View.ld x2 lower)) (View.ld x3 rows384) (View.ld x4 wholeRow) (View.ld x5 wholeRow)⟩,
    ⟨rows256, k0_pay5 (k0_pay1 (View.ld x0 half256) (View.ld x2 upper) (View.ld x1 half256) (View.ld x2 lower)) (View.ld x3 rows256) (View.ld x4 wholeRow) (View.ld x5 wholeRow)⟩,
    ⟨rows128, k0_pay5 (k0_pay1 (View.ld x0 half128) (View.ld x2 upper) (View.ld x1 half128) (View.ld x2 lower)) (View.ld x3 rows128) (View.ld x4 wholeRow) (View.ld x5 wholeRow)⟩,
    ⟨rows0, k0_pay5 (k0_pay1 (View.ld x0 half0) (View.ld x2 upper) (View.ld x1 half0) (View.ld x2 lower)) (View.ld x3 rows0) (View.ld x4 wholeRow) (View.ld x5 wholeRow)⟩]

/-- The four chunks fill the block. -/
theorem cover (p0 p1 p2 p3 : Vec F S128x2048 .f32) (y : S512x2048.Idx) :
    ∃ pc ∈ ([⟨rows384, p3⟩, ⟨rows256, p2⟩, ⟨rows128, p1⟩, ⟨rows0, p0⟩] : List (View.Piece (Elt F) S512x2048 .f32)), y ∈ pc.1.set :=
  View.cover_of_tiled [⟨rows384, p3⟩, ⟨rows256, p2⟩, ⟨rows128, p1⟩, ⟨rows0, p0⟩] S128x2048.size (by rfl) y

set_option maxHeartbeats 4000000 in
/-- The kernel body on whole buffers, its inputs at given contents: it ends with the inputs as they were, the token rows at `stored` of them, and
    the other results at something. -/
theorem body (c : Dev nD) (E : Set ℕ) (i : grid0.Coords) (arg1 : Memref sig .tc .vmem S512x1024 .bf16) (harg1 : arg1.IsWhole) (arg2 : Memref sig .tc .vmem S512x1024 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x256 .bf16) (harg7 : arg7.IsWhole) (arg8 : Memref sig .tc .vmem S1x128 .f32) (harg8 : arg8.IsWhole) (arg9 : Memref sig .tc .vmem S512x2048 .f32) (harg9 : arg9.IsWhole) (arg10 : Memref sig .tc .vmem S512x128 .i32) (harg10 : arg10.IsWhole) (arg11 : Memref sig .tc .vmem S512x128 .f32) (harg11 : arg11.IsWhole) (arg12 : Memref sig .tc .vmem S4096x2x128 .bf16) (harg12 : arg12.IsWhole)
    (x0 : Vec F S512x1024 .bf16) (x1 : Vec F S512x1024 .bf16) (x2 : Vec F S2048x2048 .bf16) (x3 : Vec F S512x2048 .f32) (x4 : Vec F S1x2048 .f32) (x5 : Vec F S1x2048 .f32) (x6 : Vec F S2048x256 .bf16) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stored x0 x1 x2 x3 x4 x5) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_outproj_ln_router i arg1 harg1 arg2 harg2 arg3 harg3 arg4 harg4 arg5 harg5 arg6 harg6 arg7 harg7 arg8 harg8 arg9 harg9 arg10 harg10 arg11 harg11 arg12 harg12) K := by
  simp only [cc0_outproj_ln_router_eq_skeleton]; unfold cc0_outproj_ln_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover _ _ _ _)
  isplitl [H9]
  · iexists _; iexists _; isplitr
    swap; · iexact H9
    ipureintro; rfl
  isplitl [H10]
  · iexists _; iexists _; isplitr
    swap; · iexact H10
    ipureintro; rfl
  iexists _; iexists _; isplitr
  swap; · iexact H11
  ipureintro; rfl

/-- The windows whose contents are left unnamed. -/
def unnamed (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true

variable (m : (ℓ : Loc nD τ sig) → Buf (Elt F) ℓ) (ρ : Dev nD → PrngReg)

/-- The launch's data: the arrays as the region finds them; after the body each input's buffer at its block and the token rows at `stored`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => stored (iblk m c 0 t) (iblk m c 1 t) (iblk m c 2 t) (iblk m c 3 t) (iblk m c 4 t) (iblk m c 5 t)
    | ⟨9, _⟩ => View.canon []
    | ⟨10, _⟩ => View.canon []
    | ⟨11, _⟩ => View.canon []
  Φ _ := Pipeline.ΦA spec0 c
  q _ := fullShare
  owed _ := 0

/-- The launch's arrays are what the region finds. -/
theorem A_eq (c : Dev nD) (w : Fin cfg0.W) : (dats m 0 c).A w = V m c (Pipeline.arrRef spec0 w) := by
  dsimp only [dats]

/-! What the body leaves in the inputs' buffers and in the token rows', and what it finds in them. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = stored (iblk m c 0 t) (iblk m c 1 t) (iblk m c 2 t) (iblk m c 3 t) (iblk m c 4 t) (iblk m c 5 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare d)
    ∗ (∃ d, owns (c : Thread nD τ) (st0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row of the table of bodies, at a point. -/
theorem row (t : Fin cfg0.N) : defs₀ (F := F) .tc cfg0.body (cfg0.bodyArgs t (cfg0.slots t)) = bodyAt0 t := by
  unfold defs₀; rw [Defs.onTc_tc]

/-- What the launch asks of the body, at every point. -/
theorem obligation (c : Dev nD) :
    BodyObligation (dats (F := F) m 0 c) (defs₀ (F := F)) Variants.none () Set.univ unnamed := fun t => by
  rw [bigSep_W0, bigSep_W0, row]
  exact triple_restated (body_at m c t) rfl .rfl fun _ => .rfl

set_option backward.isDefEq.respectTransparency.types false in
set_option maxHeartbeats 800000 in
/-- The launch: every array at what the data name, where they name it, and every counter at zero. -/
theorem launched : θ_run defs (onTc (τ := τ) (main (F := F))) (s₀ m ρ)
    (fun r => Pipeline.RDat.FramePost cfg0 (fun c => (dats m 0 c).toRForget unnamed) (V m) r ∧ r.2.sem = fun _ => 0) :=
  Pipeline.θ_run_frame_forget (Q' := _) cfgs (dats m) (0 : Fin 1) launch0 defs₀ Variants.none unnamed m ρ main
    (hbody := fun c => (obligation m c).loose) (hshare := fun c => (dats m 0 c).share_full fun _ => rfl)
    (howed := fun _ _ => rfl) (V := V m) (hmain := hmain m Variants.none) (hA := A_eq m) (hΦ := fun _ _ => rfl)

variable {m} in
/-- Where the launch's arrays are as named, the arguments are as launched. -/
theorem kept {r} (h : Pipeline.RDat.FramePost cfg0 (fun c => (dats m 0 c).toRForget unnamed) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
      (h.arr_in c 1 rfl).trans ((A_eq m c 1).trans (V_main_arg1 m c)),
      ((h c).2 main_arg2 (Pipeline.mem_restRefs_of main_arg2 (by decide) (by decide))).trans (V_main_arg2 m c),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (h.arr_in c 6 rfl).trans ((A_eq m c 6).trans (V_main_arg6 m c)),
      (h.arr_in c 7 rfl).trans ((A_eq m c 7).trans (V_main_arg7 m c))⟩

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨kept h.1, h.2⟩) (launched m ρ)

end Cert.OutProjIdeal.Run

end
-- ==== Proof.OutProjection.lean ====
/-
  The output projection with its layer norm: the token rows that the launch leaves. The kernel goes over the rows in blocks
  of 512, each in four chunks of 128; a chunk's two attention halves are multiplied with the two halves of the weights, the
  scaled tokens are added, and every row is brought to mean zero and variance one, then scaled and offset. Over the extended
  reals the reference does the same to the whole arrays, so the two are equal element by element.
-/
module

public import proofs.«01_k».proof.Defs
public import proofs.«01_k».proof.Proof.OutRunIdeal
public import proofs.«01_k».proof.Proof.Gen.OutProjRefIdeal.Read
public import Idealize.ShloMosaic.Lib.Pipeline.Value
public import Idealize.ShloMosaic.Lib.Pipeline.Cells
public import Idealize.ShloMosaic.Lib.Bf16PairInverse
public import Idealize.ShloMosaic.Lib.Pointwise
public import Idealize.ShloMosaic.Lib.Quiescent
public import Idealize.ShloMosaic.Lib.Claim
public import Idealize.ShloMosaic.Lib.StableHlo.ReadAt

@[expose] public section

noncomputable section

open Idealize.ShloMosaic Idealize.ShloMosaic.TcCoe Idealize.SL.Sem
open Idealize.ShloMosaic.Pipeline (Dat)

namespace Cert.RowNorm

/-- The mean of a row of 2048. -/
def mean (y : Fin 2048 → EReal) : EReal := Ideal.div (∑ k, y k) (Ideal.ofBits FTy.f32 1157627904#32)

/-- A row brought to mean zero and variance one, at a column, then scaled by `g` and offset by `b`. -/
def standard (y : Fin 2048 → EReal) (g b : EReal) (l : Fin 2048) : EReal :=
  (y l - mean y) * Ideal.rsqrt (mean (fun k => (y k - mean y) * (y k - mean y)) + Ideal.ofBits FTy.f32 925353388#32) * g + b

/-- A row before its norm: the scaled token row, plus the first attention half times the upper weights and the second times
the lower ones. -/
def mix (u v : Fin 1024 → EReal) (p q : Fin 1024 → Fin 2048 → EReal) (x : Fin 2048 → EReal) (l : Fin 2048) : EReal :=
  Ideal.ofBits FTy.f32 1068827891#32 * x l + (∑ k, u k * p k l + ∑ k, v k * q k l)

end Cert.RowNorm

namespace Cert.OutProjIdeal.Tokens

open Cert.OutProjIdeal Cert.OutProjIdeal.Gen Cert.OutProjIdeal.Run Cert.RowNorm

/-- An element of a chunk is the norm of its mixed row. -/
theorem chunk_apply (u v : Vec Ideal S128x1024 .bf16) (p q : Vec Ideal S1024x2048 .bf16) (x : Vec Ideal S128x2048 .f32) (g b : Vec Ideal S1x2048 .f32) (r : Fin 128) (l : Fin 2048) :
    k0_pay5 (F := Ideal) (k0_pay1 u p v q) x g b (ix2 r l)
      = standard (mix (fun k => u (ix2 r k)) (fun k => v (ix2 r k)) (fun k j => p (ix2 k j)) (fun k j => q (ix2 k j)) fun j => x (ix2 r j)) (g (ix2 0 l)) (b (ix2 0 l)) l := by
  unfold standard mean mix
  pointwise [k0_pay5, k0_pay1]

/-- The block after the body, at a row and a column: the norm of the mixed row. -/
def rowOf (x0 x1 : Vec Ideal S512x1024 .bf16) (x2 : Vec Ideal S2048x2048 .bf16) (x3 : Vec Ideal S512x2048 .f32) (x4 x5 : Vec Ideal S1x2048 .f32) (r : Fin 512) (l : Fin 2048) : EReal :=
  standard (mix (fun k => x0 (ix2 r k)) (fun k => x1 (ix2 r k)) (fun k j => x2 (ix2 ⟨k.val, by omega⟩ j)) (fun k j => x2 (ix2 ⟨1024 + k.val, by omega⟩ j)) fun j => x3 (ix2 r j))
    (x4 (ix2 0 l)) (x5 (ix2 0 l)) l

section Chunks

variable (x0 x1 : Vec Ideal S512x1024 .bf16) (x2 : Vec Ideal S2048x2048 .bf16) (x3 : Vec Ideal S512x2048 .f32) (x4 x5 : Vec Ideal S1x2048 .f32)

theorem upper_apply (k : Fin 1024) (j : Fin 2048) : (View.ld x2 upper : Vec Ideal S1024x2048 .bf16) (ix2 k j) = x2 (ix2 ⟨k.val, by omega⟩ j) :=
  congrArg x2 (funext fun a => Fin.ext (by
    match a with
    | ⟨0, _⟩ => show 0 + 1 * k.val = k.val; omega
    | ⟨1, _⟩ => show 0 + 1 * j.val = j.val; omega))

theorem lower_apply (k : Fin 1024) (j : Fin 2048) : (View.ld x2 lower : Vec Ideal S1024x2048 .bf16) (ix2 k j) = x2 (ix2 ⟨1024 + k.val, by omega⟩ j) :=
  congrArg x2 (funext fun a => Fin.ext (by
    match a with
    | ⟨0, _⟩ => show 1024 + 1 * k.val = 1024 + k.val; omega
    | ⟨1, _⟩ => show 0 + 1 * j.val = j.val; omega))

theorem whole_apply (y : Vec Ideal S1x2048 .f32) (j : Fin 2048) : (View.ld y wholeRow : Vec Ideal S1x2048 .f32) (ix2 0 j) = y (ix2 0 j) :=
  congrArg y (funext fun a => Fin.ext (by
    match a with
    | ⟨0, _⟩ => rfl
    | ⟨1, _⟩ => show 0 + 1 * j.val = j.val; omega))

/-- A chunk whose rows start at row `o` of the block holds the block's rows from there. -/
theorem chunk_row (h : Vec Ideal S128x1024 .bf16) (h' : Vec Ideal S128x1024 .bf16) (z : Vec Ideal S128x2048 .f32)
    (p q : Vec Ideal S1024x2048 .bf16) (g b : Vec Ideal S1x2048 .f32) (o : ℕ)
    (ep : ∀ (k : Fin 1024) (j : Fin 2048), p (ix2 k j) = x2 (ix2 ⟨k.val, by omega⟩ j))
    (eq' : ∀ (k : Fin 1024) (j : Fin 2048), q (ix2 k j) = x2 (ix2 ⟨1024 + k.val, by omega⟩ j))
    (eg : ∀ j : Fin 2048, g (ix2 0 j) = x4 (ix2 0 j)) (eb : ∀ j : Fin 2048, b (ix2 0 j) = x5 (ix2 0 j))
    (e0 : ∀ (r : Fin 128) (k : Fin 1024) (i : Fin 512), i.val = o + r.val → h (ix2 r k) = x0 (ix2 i k))
    (e1 : ∀ (r : Fin 128) (k : Fin 1024) (i : Fin 512), i.val = o + r.val → h' (ix2 r k) = x1 (ix2 i k))
    (e3 : ∀ (r : Fin 128) (k : Fin 2048) (i : Fin 512), i.val = o + r.val → z (ix2 r k) = x3 (ix2 i k))
    (y : S128x2048.Idx) (r : Fin 512) (l : Fin 2048) (hr : r.val = o + 1 * (y 0).val) (hl : l.val = 0 + 1 * (y 1).val) :
    k0_pay5 (F := Ideal) (k0_pay1 h p h' q) z g b y = rowOf x0 x1 x2 x3 x4 x5 r l := by
  have hl' : l = y 1 := Fin.ext (by omega)
  subst hl'
  refine (congrArg _ (eq_ix2 y)).trans ?_
  refine (chunk_apply h h' _ _ z _ _ (y 0) (y 1)).trans ?_
  simp only [ep, eq', eg (y 1), eb (y 1), e0 (y 0) _ r (by omega), e1 (y 0) _ r (by omega), e3 (y 0) _ r (by omega)]
  rfl

/-- Reads of a chunk's rows of an attention half, and of the tokens. -/
theorem half_apply (x : Vec Ideal S512x1024 .bf16) (o : ℕ) (inb) (r : Fin 128) (k : Fin 1024) (i : Fin 512) (hi : i.val = o + r.val) :
    (View.ld x (Rect.unit (s := S512x1024) ![o, 0] S128x1024.size inb) : Vec Ideal S128x1024 .bf16) (ix2 r k) = x (ix2 i k) :=
  congrArg x (funext fun a => Fin.ext (by
    match a with
    | ⟨0, _⟩ => show o + 1 * r.val = i.val; omega
    | ⟨1, _⟩ => show 0 + 1 * k.val = k.val; omega))

theorem rows_apply (x : Vec Ideal S512x2048 .f32) (o : ℕ) (inb) (r : Fin 128) (k : Fin 2048) (i : Fin 512) (hi : i.val = o + r.val) :
    (View.ld x (Rect.unit (s := S512x2048) ![o, 0] S128x2048.size inb) : Vec Ideal S128x2048 .f32) (ix2 r k) = x (ix2 i k) :=
  congrArg x (funext fun a => Fin.ext (by
    match a with
    | ⟨0, _⟩ => show o + 1 * r.val = i.val; omega
    | ⟨1, _⟩ => show 0 + 1 * k.val = k.val; omega))

/-- The block after the body is the norm of the mixed rows. -/
theorem stored_apply (y : S512x2048.Idx) : stored x0 x1 x2 x3 x4 x5 y = rowOf x0 x1 x2 x3 x4 x5 (y 0) (y 1) := by
  unfold stored
  refine View.canon_apply_of_pieces (Val := Elt Ideal) (fun y : S512x2048.Idx => rowOf x0 x1 x2 x3 x4 x5 (y 0) (y 1)) _ ?_ y (cover _ _ _ _ y)
  intro pc hpc x
  rcases List.mem_cons.mp hpc with rfl | hpc
  · exact chunk_row x0 x1 x2 x3 x4 x5 _ _ _ _ _ _ _ 384 (upper_apply x2) (lower_apply x2) (whole_apply x4) (whole_apply x5) (half_apply x0 384 _) (half_apply x1 384 _) (rows_apply x3 384 _) x _ _ rfl rfl
  rcases List.mem_cons.mp hpc with rfl | hpc
  · exact chunk_row x0 x1 x2 x3 x4 x5 _ _ _ _ _ _ _ 256 (upper_apply x2) (lower_apply x2) (whole_apply x4) (whole_apply x5) (half_apply x0 256 _) (half_apply x1 256 _) (rows_apply x3 256 _) x _ _ rfl rfl
  rcases List.mem_cons.mp hpc with rfl | hpc
  · exact chunk_row x0 x1 x2 x3 x4 x5 _ _ _ _ _ _ _ 128 (upper_apply x2) (lower_apply x2) (whole_apply x4) (whole_apply x5) (half_apply x0 128 _) (half_apply x1 128 _) (rows_apply x3 128 _) x _ _ rfl rfl
  rcases List.mem_cons.mp hpc with rfl | hpc
  · exact chunk_row x0 x1 x2 x3 x4 x5 _ _ _ _ _ _ _ 0 (upper_apply x2) (lower_apply x2) (whole_apply x4) (whole_apply x5) (half_apply x0 0 _) (half_apply x1 0 _) (rows_apply x3 0 _) x _ _ rfl rfl
  nomatch hpc

end Chunks

variable (m : (ℓ : Loc nD τ sig) → Buf (Elt Ideal) ℓ) (ρ : Dev nD → PrngReg) (c : Dev nD)

/-- The arguments that the token rows depend on, as launched: the two attention halves, the weights, the tokens, the norm's
gain and its offset. -/
abbrev first : Vec Ideal S16384x1024 .bf16 := m ((c : Thread nD τ).loc main_arg0)
abbrev second : Vec Ideal S16384x1024 .bf16 := m ((c : Thread nD τ).loc main_arg1)
abbrev weights : Vec Ideal S1x2048x2048 .f32 := m ((c : Thread nD τ).loc main_arg2)
abbrev tokens : Vec Ideal S16384x2048 .f32 := m ((c : Thread nD τ).loc main_arg3)
abbrev gain : Vec Ideal S2048 .f32 := m ((c : Thread nD τ).loc main_arg4)
abbrev offset : Vec Ideal S2048 .f32 := m ((c : Thread nD τ).loc main_arg5)

/-- The block indices of the windows that the token rows depend on, and of their own. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_8.index t (0 : Fin 2) = t.val ∧ win0_8.index t (1 : Fin 2) = 0) :=
  (by decide +kernel : ∀ t : Fin grid0.N, _)

/-- The weights' array that the grid finds is the weights as launched, without their unit axis. -/
theorem weights_entry (k j : Fin 2048) : (V m c main_v1 : Vec Ideal S2048x2048 .bf16) (ix2 k j) = weights m c (ix3 0 k j) := by
  unfold V
  after_reads_at

/-- The gain's and the offset's rows that the grid finds are the vectors as launched. -/
theorem gain_entry (j : Fin 2048) : (V m c main_v2 : Vec Ideal S1x2048 .f32) (ix2 0 j) = gain m c (ix1 j) := by
  unfold V
  after_reads_at

theorem offset_entry (j : Fin 2048) : (V m c main_v3 : Vec Ideal S1x2048 .f32) (ix2 0 j) = offset m c (ix1 j) := by
  unfold V
  after_reads_at

/-! Every window's block at an index, as the argument's element below it. -/

theorem first_block (t : Fin cfg0.N) (r : Fin 512) (k : Fin 1024) (i : Fin 16384) (hi : i.val = t.val * 512 + r.val) :
    (iblk m c 0 t : Vec Ideal S512x1024 .bf16) (ix2 r k) = first m c (ix2 i k) := by
  obtain ⟨⟨e0, e1⟩, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = i.val; rw [e0, hi]; omega
  | ⟨1, _⟩ => show win0_0.index t 1 * 1024 + 1 * k.val = k.val; rw [e1]; omega

theorem second_block (t : Fin cfg0.N) (r : Fin 512) (k : Fin 1024) (i : Fin 16384) (hi : i.val = t.val * 512 + r.val) :
    (iblk m c 1 t : Vec Ideal S512x1024 .bf16) (ix2 r k) = second m c (ix2 i k) := by
  obtain ⟨-, ⟨e0, e1⟩, -⟩ := index_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * r.val = i.val; rw [e0, hi]; omega
  | ⟨1, _⟩ => show win0_1.index t 1 * 1024 + 1 * k.val = k.val; rw [e1]; omega

theorem weights_block (t : Fin cfg0.N) (k j : Fin 2048) :
    (iblk m c 2 t : Vec Ideal S2048x2048 .bf16) (ix2 k j) = weights m c (ix3 0 k j) := by
  obtain ⟨-, -, ⟨e0, e1⟩, -⟩ := index_facts t
  rw [← weights_entry]
  unfold iblk
  rw [View.read_apply]
  refine congrArg (V m c main_v1) (funext fun a => Fin.ext ?_)
  match a with
  | ⟨0, _⟩ => show win0_2.index t 0 * 2048 + 1 * k.val = k.val; rw [e0]; omega
  | ⟨1, _⟩ => show win0_2.index t 1 * 2048 + 1 * j.val = j.val; rw [e1]; omega

theorem tokens_block (t : Fin cfg0.N) (r : Fin 512) (j : Fin 2048) (i : Fin 16384) (hi : i.val = t.val * 512 + r.val) :
    (iblk m c 3 t : Vec Ideal S512x2048 .f32) (ix2 r j) = tokens m c (ix2 i j) := by
  obtain ⟨-, -, -, ⟨e0, e1⟩, -⟩ := index_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 512 + 1 * r.val = i.val; rw [e0, hi]; omega
  | ⟨1, _⟩ => show win0_3.index t 1 * 2048 + 1 * j.val = j.val; rw [e1]; omega

theorem gain_block (t : Fin cfg0.N) (j : Fin 2048) : (iblk m c 4 t : Vec Ideal S1x2048 .f32) (ix2 0 j) = gain m c (ix1 j) := by
  obtain ⟨-, -, -, -, ⟨e0, e1⟩, -⟩ := index_facts t
  rw [← gain_entry]
  unfold iblk
  rw [View.read_apply]
  refine congrArg (V m c main_v2) (funext fun a => Fin.ext ?_)
  match a with
  | ⟨0, _⟩ => show win0_4.index t 0 * 1 + 1 * 0 = 0; rw [e0]
  | ⟨1, _⟩ => show win0_4.index t 1 * 2048 + 1 * j.val = j.val; rw [e1]; omega

theorem offset_block (t : Fin cfg0.N) (j : Fin 2048) : (iblk m c 5 t : Vec Ideal S1x2048 .f32) (ix2 0 j) = offset m c (ix1 j) := by
  obtain ⟨-, -, -, -, -, ⟨e0, e1⟩, -⟩ := index_facts t
  rw [← offset_entry]
  unfold iblk
  rw [View.read_apply]
  refine congrArg (V m c main_v3) (funext fun a => Fin.ext ?_)
  match a with
  | ⟨0, _⟩ => show win0_5.index t 0 * 1 + 1 * 0 = 0; rw [e0]
  | ⟨1, _⟩ => show win0_5.index t 1 * 2048 + 1 * j.val = j.val; rw [e1]; omega

/-- The token rows: the norm of the mixed rows of the arguments. -/
def entry (i : Fin 16384) (j : Fin 2048) : EReal :=
  standard (mix (fun k => first m c (ix2 i k)) (fun k => second m c (ix2 i k)) (fun k l => weights m c (ix3 0 ⟨k.val, by omega⟩ l))
      (fun k l => weights m c (ix3 0 ⟨1024 + k.val, by omega⟩ l)) fun l => tokens m c (ix2 i l))
    (gain m c (ix1 j)) (offset m c (ix1 j)) j

/-- The array that the launch is shown to leave. -/
abbrev normed : Vec Ideal S16384x2048 .f32 := fun i => entry m c (i 0) (i 1)

/-- A grid point's block at an index is the entry below it. -/
theorem block_entry (t : Fin cfg0.N) (r : Fin 512) (l : Fin 2048) (i : Fin 16384) (j : Fin 2048) (hi : i.val = t.val * 512 + r.val) (hj : j.val = l.val) :
    rowOf (iblk m c 0 t) (iblk m c 1 t) (iblk m c 2 t) (iblk m c 3 t) (iblk m c 4 t) (iblk m c 5 t) r l = entry m c i j := by
  obtain rfl : j = l := Fin.ext hj
  unfold rowOf entry
  simp only [first_block m c t r _ i hi, second_block m c t r _ i hi, weights_block, tokens_block m c t r _ i hi, gain_block, offset_block]

/-- The row and the column of the result under a block's. -/
theorem under_row (t : Fin cfg0.N) (y : S512x2048.Idx) : (((cfg0.win 8).blk t).view.emb y 0).val = t.val * 512 + (y 0).val := by
  obtain ⟨-, -, -, -, -, -, e0, e1⟩ := index_facts t
  show win0_8.index t (0 : Fin 2) * 512 + 1 * (y 0).val = _
  rw [e0]; omega

theorem under_col (t : Fin cfg0.N) (y : S512x2048.Idx) : (((cfg0.win 8).blk t).view.emb y 1).val = (y 1).val := by
  obtain ⟨-, -, -, -, -, -, e0, e1⟩ := index_facts t
  show win0_8.index t (1 : Fin 2) * 2048 + 1 * (y 1).val = _
  rw [e1]; omega

/-- What a grid point writes back is its block of the token rows. -/
theorem flushed_eq (t : Fin cfg0.N) :
    (dats m 0 c).flushed 8 t = ((cfg0.win 8).blk t).view.read (Elt Ideal) (normed m c) := by
  show (cfg0.win 8).cut (grid0.coords t) ((dats m 0 c).after 8 t) = _
  rw [after_8]
  funext y
  exact (stored_apply _ _ _ _ _ _ (y : S512x2048.Idx)).trans
    (block_entry m c t (y 0) (y 1) (((cfg0.win 8).blk t).view.emb y 0) (((cfg0.win 8).blk t).view.emb y 1) (under_row t y) (under_col t y))

/-- Every index of the result lies in the block of the grid point that its row names. -/
theorem covered (i : S16384x2048.Idx) : ∃ t : Fin cfg0.N, (cfg0.win 8).flush t = true ∧ i ∈ ((cfg0.win 8).blk t).view.set := by
  have hN : cfg0.N = 32 := N_0
  have i0 : (i 0).val < 16384 := (i 0).isLt
  have i1 : (i 1).val < 2048 := (i 1).isLt
  let t : Fin cfg0.N := ⟨(i 0).val / 512, by omega⟩
  let y : S512x2048.Idx := ix2 ⟨(i 0).val % 512, by omega⟩ ⟨(i 1).val, by omega⟩
  have e : ((cfg0.win 8).blk t).view.emb y = i := funext fun a => Fin.ext (by
    match a with
    | ⟨0, _⟩ => exact (under_row t y).trans (by show (i 0).val / 512 * 512 + (i 0).val % 512 = (i 0).val; omega)
    | ⟨1, _⟩ => exact under_col t y)
  exact ⟨t, flush0_8 t, e ▸ ((cfg0.win 8).blk t).view.emb_mem_set y⟩

/-- So the result array ends holding the token rows: its blocks tile it. -/
theorem final_eq : (dats m 0 c).arrAt 8 cfg0.N = normed m c :=
  (dats m 0 c).arrAt_eq_of_cover 8 _ (fun t _ => flushed_eq m c t) covered

/-- The run: the token rows at their norm, the arguments unchanged. -/
theorem run : θ_run defs (onTc (τ := τ) (main (F := Ideal))) ⟨m, fun _ => 0, ρ⟩ fun r => ∀ c : Dev nD,
      r.2.mem ((c : Thread nD τ).loc main_v4_0) = normed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(((dats m 0 c).toRForget_arrAt_iff rfl _ _).1 ((h.1 c).1 8)).trans (final_eq m c),
      kept h.1 c⟩) (launched m ρ)

end Cert.OutProjIdeal.Tokens

namespace Cert.OutProjClaims

open Cert.OutProjRefIdeal Cert.OutProjRefIdeal.Read Cert.RowNorm

section Reference

variable (u v : Vec Ideal S16384x1024 .bf16) (w : Vec Ideal S1x2048x2048 .f32) (x : Vec Ideal S16384x2048 .f32) (g b : Vec Ideal S2048 .f32)

/-- The reference's row before the norm. -/
abbrev mixedRow (i : Fin 16384) : Fin 2048 → EReal :=
  mix (fun k => u (ix2 i k)) (fun k => v (ix2 i k)) (fun k l => w (ix3 0 ⟨k.val, by omega⟩ l))
    (fun k l => w (ix3 0 ⟨1024 + k.val, by omega⟩ l)) fun l => x (ix2 i l)

theorem mixed_apply (i : Fin 16384) (j : Fin 2048) : val_main_v7 (F := Ideal) u v w x (ix2 i j) = mixedRow u v w x i j := by
  unfold mixedRow mix
  pointwise [val_main_v7, val_main_v6, val_main_v5, val_main_v4, val_main_v3, val_main_v2, val_main_v1, val_main_v0, val_main_cst]

theorem mean_apply (i : Fin 16384) : val_main_v11 (F := Ideal) u v w x (ix2 i 0) = mean (mixedRow u v w x i) := by
  have h (k : Fin 2048) := mixed_apply u v w x i k
  unfold mean
  simp only [← h]
  pointwise [val_main_v11, val_main_v10, val_main_v9, val_main_v8, val_main_cst_1, val_main_cst_0]

theorem variance_apply (i : Fin 16384) : val_main_v18 (F := Ideal) u v w x (ix2 i 0)
    = mean fun k => (mixedRow u v w x i k - mean (mixedRow u v w x i)) * (mixedRow u v w x i k - mean (mixedRow u v w x i)) := by
  have h (k : Fin 2048) := mixed_apply u v w x i k
  rw [← mean_apply]
  unfold mean
  simp only [← h]
  pointwise [val_main_v18, val_main_v17, val_main_v16, val_main_v15, val_main_v14, val_main_v13, val_main_v12, val_main_cst_3, val_main_cst_2]

/-- The reference's result at an index is the norm of its mixed row. -/
theorem reference_apply (i : Fin 16384) (j : Fin 2048) : val_main_v31 (F := Ideal) u v w x g b (ix2 i j) = standard (mixedRow u v w x i) (g (ix1 j)) (b (ix1 j)) j := by
  unfold standard
  rw [← variance_apply, ← mean_apply, ← mixed_apply]
  pointwise [val_main_v31, val_main_v30, val_main_v29, val_main_v28, val_main_v27, val_main_v26, val_main_v25, val_main_v24, val_main_v23, val_main_v22, val_main_v21, val_main_v20, val_main_v19, val_main_cst_4]

end Reference

/-- The output projection's token rows and the reference's end equal over the extended reals. -/
theorem algebraic : Cert.algebraic_OutProjIdeal_OutProjRefIdeal := by
  intro m g m' g' _ hagree
  refine ⟨Cert.OutProjIdeal.Tokens.normed m, Cert.OutProjIdeal.Tokens.run m g, ?_⟩
  refine (θ_run _ _ _).mono (fun r h c => ⟨(h c).1.trans ?_, (h c).2⟩) (Cert.OutProjRefIdeal.Value.run m' g')
  obtain ⟨e0, e1, e2, e3, e4, e5, -, -⟩ := hagree c
  rw [val_main_v31_eq, e0, e1, e2, e3, e4, e5]
  funext i
  rw [eq_ix2 i]
  exact reference_apply _ _ _ _ _ _ _ _

/-- The reference runs to the end, faults nowhere, and keeps its arguments. -/
theorem reference_frame : Cert.quiescent_OutProjRefIdeal := fun m g _ =>
  (θ_run _ _ _).mono (fun r h => ⟨fun c => (h c).2, sem_eq_zero_of_no_sems (by decide) r.2⟩)
    (Cert.OutProjRefIdeal.Value.run (F := Ideal) m g)

/-- The sites at which a word of two halves stands for two rows: the two buffers read as words, a chunk's rows stored as
words, and the packing of two rows into one. -/
theorem preserves : Cert.preserves_OutProj_OutProjIdeal :=
  ⟨IdealRules.bf16_pair.bufferStatement _ _, IdealRules.bf16_pair.bufferStatement _ _, IdealRules.bf16_pair.statement _ _, IdealRules.bf16_pack.statement _⟩

end Cert.OutProjClaims

end
-- ==== Proof.SpatialGating.lean ====
/-
  The spatial gating of the first two column groups: the block that the body leaves. A grid point holds 512 rows of one
  sequence. The second group's rows go through the activation and a layer norm; every 128 of them are mixed, in eight groups
  of 128 columns, by a lower triangular matrix; the mix plus its offset multiplies the first group's activation.
-/
module

public import proofs.«01_k».proof.Proof.Gen.GmlpIdeal.Value
public import Idealize.ShloMosaic.Lib.Pointwise

@[expose] public section

noncomputable section

open Idealize.ShloMosaic Idealize.ShloMosaic.TcCoe Idealize.SL.Sem

namespace Cert.Gating

/-- The activation: half the value times one plus the hyperbolic tangent of a cubic. -/
def gelu (x : EReal) : EReal :=
  Ideal.ofBits FTy.f32 1056964608#32 * x
    * (Ideal.ofBits FTy.f32 1065353216#32 + Ideal.tanh (Ideal.ofBits FTy.f32 1061962282#32 * (x + Ideal.ofBits FTy.f32 1027024659#32 * (x * x * x))))

/-- The mean of a row of 1024. -/
def mean (y : Fin 1024 → EReal) : EReal := Ideal.div (∑ k, y k) (Ideal.ofBits FTy.f32 1149239296#32)

/-- A row brought to mean zero and variance one, at a column, then scaled by `g` and offset by `b`. -/
def standard (y : Fin 1024 → EReal) (g b : EReal) (l : Fin 1024) : EReal :=
  (y l - mean y) * Ideal.rsqrt (mean (fun k => (y k - mean y) * (y k - mean y)) + Ideal.ofBits FTy.f32 925353388#32) * g + b

/-- The matrix kept on and under its diagonal. -/
def lower (w : Fin 128 → Fin 128 → EReal) (t s : Fin 128) : EReal := if s.val ≤ t.val then w t s else 0

/-- The comparison of two positions that the triangle is made of. -/
theorem sge_position : ∀ t s : Fin 128, IntOp.cmpi .sge (BitVec.ofNat 32 t.val) (BitVec.ofNat 32 s.val) = if s.val ≤ t.val then 1#1 else 0#1 := by
  decide +kernel

end Cert.Gating

namespace Cert.GmlpIdeal.Body

open Cert.GmlpIdeal Cert.GmlpIdeal.Gen Cert.Gating

theorem first_apply (x : Vec Ideal S1x512x1024 .bf16) (r : Fin 512) (l : Fin 1024) : k0_pay2 (F := Ideal) x (ix2 r l) = gelu (x (ix3 0 r l)) := by
  unfold gelu
  pointwise [k0_pay2]

theorem second_apply (x : Vec Ideal S1x512x1024 .bf16) (r : Fin 512) (l : Fin 1024) : k0_pay3 (F := Ideal) x (ix2 r l) = gelu (x (ix3 0 r l)) := by
  unfold gelu
  pointwise [k0_pay3]

theorem total_apply (x : Vec Ideal S1x512x1024 .bf16) (r : Fin 512) : k0_pay6 (F := Ideal) x (ix2 r 0) = ∑ k : Fin 1024, gelu (x (ix3 0 r k)) := by
  have h (k : Fin 1024) := second_apply x r k
  simp only [← h]
  pointwise [k0_pay6]

theorem norm_apply (x : Vec Ideal S1x512x1024 .bf16) (g b : Vec Ideal S1x1024 .f32) (r : Fin 512) (l : Fin 1024) :
    k0_pay7 (F := Ideal) (k0_pay3 x) (k0_pay4 g) (k0_pay5 b) (k0_pay6 x) (Scalar.ofBits .f32 0x44800000#32) (ix2 r l)
      = standard (fun k => gelu (x (ix3 0 r k))) (g (ix2 0 l)) (b (ix2 0 l)) l := by
  unfold standard mean
  have h (k : Fin 1024) := second_apply x r k
  rw [← total_apply]
  simp only [← h]
  pointwise [k0_pay7, k0_pay4, k0_pay5]

theorem lower_apply (w : Vec Ideal S1x128x128 .f32) (t s : Fin 128) : k0_pay8 (F := Ideal) w (ix2 t s) = lower (fun t s => w (ix3 0 t s)) t s := by
  unfold lower
  refine Eq.trans (b := Scalar.select (IntOp.cmpi .sge (BitVec.ofNat 32 t.val) (BitVec.ofNat 32 s.val)) (w (ix3 0 t s)) 0) ?_ ?_
  · pointwise [k0_pay8]
  · rw [sge_position]
    unfold Scalar.select
    split <;> rfl

/-- The piece that the body stores for the rows from `o` and the columns from `p`. -/
def gate (o p : ℕ) (h : S512x1024.Slices ![o, p] S128x128) (u : FVec Ideal S512x1024 .f32) (v : FVec Ideal S512x1024 .bf16) (w : FVec Ideal S128x128 .bf16) (b : FVec Ideal S128x1 .f32) : FVec Ideal S1x128x128 .bf16 :=
  shapeCast S1x128x128 (truncf .bf16 (mulf (extractStridedSlice S128x128 ![o, p] u h)
    (addf (matmul dot_S128x128_S128x128_S128x128_1_0_0_1_n_n none w (extractStridedSlice S128x128 ![o, p] v h) (constant S128x128 .f32 0x00000000#32))
      (broadcastTo S128x128 b broadcasts_S128x1_S128x128))) bitsLt_bf16_f32) shapeCasts_S128x128_S1x128x128

/-- A stored piece at an index: the first value times the mix of the second ones plus the offset. -/
theorem gate_apply (o p : ℕ) (h : S512x1024.Slices ![o, p] S128x128) (u : FVec Ideal S512x1024 .f32) (v : FVec Ideal S512x1024 .bf16) (w : FVec Ideal S128x128 .bf16) (b : FVec Ideal S128x1 .f32)
    (f : Fin 128 → Fin 512) (l : Fin 1024) (t j : Fin 128) (hf : ∀ s : Fin 128, (f s).val = o + s.val) (hl : l.val = p + j.val) :
    gate o p h u v w b (ix3 0 t j) = u (ix2 (f t) l) * (∑ s : Fin 128, w (ix2 t s) * v (ix2 (f s) l) + b (ix2 t 0)) := by
  have eu : extractStridedSlice S128x128 ![o, p] u h (ix2 t j) = u (ix2 (f t) l) :=
    extractStridedSlice_apply ![o, p] u h (ix2 t j) (ix2 (f t) l) (fun a => by
      match a with
      | ⟨0, _⟩ => exact hf t
      | ⟨1, _⟩ => exact hl)
  have ev (s : Fin 128) : extractStridedSlice S128x128 ![o, p] v h (ix2 s j) = v (ix2 (f s) l) :=
    extractStridedSlice_apply ![o, p] v h (ix2 s j) (ix2 (f s) l) (fun a => by
      match a with
      | ⟨0, _⟩ => exact hf s
      | ⟨1, _⟩ => exact hl)
  rw [← eu]
  simp only [← ev]
  unfold gate
  generalize extractStridedSlice S128x128 ![o, p] u h = u'
  generalize extractStridedSlice S128x128 ![o, p] v h = v'
  pointwise

/-- The block after the body, at a row `128 n + t` and a column of group `g`. -/
def gatedOf (x0 x1 : Vec Ideal S1x512x1024 .bf16) (x2 x3 : Vec Ideal S1x1024 .f32) (x4 : Vec Ideal S8x128x128 .f32) (x5 : Vec Ideal S128x8 .f32)
    (n : Fin 4) (g : Fin 8) (t j : Fin 128) : EReal :=
  gelu (x0 (ix3 0 ⟨128 * n.val + t.val, by omega⟩ ⟨128 * g.val + j.val, by omega⟩))
    * (∑ s : Fin 128, lower (fun t s => x4 (ix3 g t s)) t s
        * standard (fun k => gelu (x1 (ix3 0 ⟨128 * n.val + s.val, by omega⟩ k))) (x2 (ix2 0 ⟨128 * g.val + j.val, by omega⟩)) (x3 (ix2 0 ⟨128 * g.val + j.val, by omega⟩)) ⟨128 * g.val + j.val, by omega⟩
      + x5 (ix2 t g))

/-- The block after the body, element by element. -/
def blockOf (x0 x1 : Vec Ideal S1x512x1024 .bf16) (x2 x3 : Vec Ideal S1x1024 .f32) (x4 : Vec Ideal S8x128x128 .f32) (x5 : Vec Ideal S128x8 .f32)
    (y : S1x512x1024.Idx) : EReal :=
  have h1 : (y 1).val < 512 := (y 1).isLt
  have h2 : (y 2).val < 1024 := (y 2).isLt
  gatedOf x0 x1 x2 x3 x4 x5 ⟨(y 1).val / 128, by omega⟩ ⟨(y 2).val / 128, by omega⟩ ⟨(y 1).val % 128, by omega⟩ ⟨(y 2).val % 128, by omega⟩

section Pieces

variable (x0 x1 : Vec Ideal S1x512x1024 .bf16) (x2 x3 : Vec Ideal S1x1024 .f32) (x4 : Vec Ideal S8x128x128 .f32) (x5 : Vec Ideal S128x8 .f32)

theorem whole_apply (x : Vec Ideal S1x512x1024 .bf16) : (View.ld x r0_0 : Vec Ideal S1x512x1024 .bf16) = x :=
  funext fun y => congrArg x (funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega))

theorem row_apply (x : Vec Ideal S1x1024 .f32) : (View.ld x r0_1 : Vec Ideal S1x1024 .f32) = x :=
  funext fun y => congrArg x (funext fun a => Fin.ext (by
    match a with
    | ⟨0, _⟩ => show 0 + 1 * (y 0).val = (y 0).val; omega
    | ⟨1, _⟩ => show 0 + 1 * (y 1).val = (y 1).val; omega))

theorem matrix_apply (k : ℕ) (inb) (g : Fin 8) (hg : g.val = k) (t s : Fin 128) :
    (View.ld x4 (Rect.unit (s := S8x128x128) ![k, 0, 0] S1x128x128.size inb) : Vec Ideal S1x128x128 .f32) (ix3 0 t s) = x4 (ix3 g t s) :=
  congrArg x4 (funext fun a => Fin.ext (by
    match a with
    | ⟨0, _⟩ => show k + 1 * 0 = g.val; omega
    | ⟨1, _⟩ => show 0 + 1 * t.val = t.val; omega
    | ⟨2, _⟩ => show 0 + 1 * s.val = s.val; omega))

theorem offset_apply (k : ℕ) (inb) (g : Fin 8) (hg : g.val = k) (t : Fin 128) :
    (View.ld x5 (Rect.unit (s := S128x8) ![0, k] S128x1.size inb) : Vec Ideal S128x1 .f32) (ix2 t 0) = x5 (ix2 t g) :=
  congrArg x5 (funext fun a => Fin.ext (by
    match a with
    | ⟨0, _⟩ => show 0 + 1 * t.val = t.val; omega
    | ⟨1, _⟩ => show k + 1 * 0 = g.val; omega))

/-- A stored piece is the block's part under it. -/
theorem piece_block (o p k : ℕ) (h : S512x1024.Slices ![o, p] S128x128) (inb4) (inb5) (hp : p = 128 * k) (x : S1x128x128.Idx) (y : S1x512x1024.Idx)
    (ho : o = 128 * (o / 128)) (h1 : (y 1).val = o + 1 * (x 1).val) (h2 : (y 2).val = p + 1 * (x 2).val) :
    gate o p h (k0_pay2 (F := Ideal) (View.ld x0 r0_0))
        (k0_pay7 (F := Ideal) (k0_pay3 (View.ld x1 r0_0)) (k0_pay4 (View.ld x2 r0_1)) (k0_pay5 (View.ld x3 r0_1)) (k0_pay6 (View.ld x1 r0_0)) (Scalar.ofBits .f32 0x44800000#32))
        (k0_pay8 (F := Ideal) (View.ld x4 (Rect.unit (s := S8x128x128) ![k, 0, 0] S1x128x128.size inb4)))
        (k0_pay9 (F := Ideal) (View.ld x5 (Rect.unit (s := S128x8) ![0, k] S128x1.size inb5))) x
      = blockOf x0 x1 x2 x3 x4 x5 y := by
  have k0 : (x 0).val < 1 := (x 0).isLt
  have k1 : (x 1).val < 128 := (x 1).isLt
  have k2 : (x 2).val < 128 := (x 2).isLt
  have y1 : (y 1).val < 512 := (y 1).isLt
  have y2 : (y 2).val < 1024 := (y 2).isLt
  have e : x = ix3 0 ⟨(x 1).val, k1⟩ ⟨(x 2).val, k2⟩ := funext fun a => Fin.ext (by
    match a with
    | ⟨0, _⟩ => show (x 0).val = 0; omega
    | ⟨1, _⟩ => rfl
    | ⟨2, _⟩ => rfl)
  have e1 : (⟨(x 1).val, k1⟩ : Fin 128) = ⟨(y 1).val % 128, by omega⟩ := Fin.ext (by dsimp only; omega)
  have e2 : (⟨(x 2).val, k2⟩ : Fin 128) = ⟨(y 2).val % 128, by omega⟩ := Fin.ext (by dsimp only; omega)
  rw [e, e1, e2]
  refine (gate_apply o p h _ _ _ _ (fun s => ⟨128 * ((y 1).val / 128) + s.val, by omega⟩) ⟨128 * ((y 2).val / 128) + (y 2).val % 128, by omega⟩ _ _
    (fun s => by dsimp only; omega) (by dsimp only; omega)).trans ?_
  unfold blockOf gatedOf
  simp only [whole_apply, row_apply]
  refine congr (congrArg HMul.hMul (first_apply _ _ _)) (congr (congrArg HAdd.hAdd (Finset.sum_congr rfl fun s _ => congr (congrArg HMul.hMul ?_) (norm_apply _ _ _ _ _))) ?_)
  · rw [lower_apply]
    simp only [matrix_apply x4 k inb4 ⟨(y 2).val / 128, by omega⟩ (by dsimp only; omega)]
  · refine Eq.trans ?_ (offset_apply x5 k inb5 ⟨(y 2).val / 128, by omega⟩ (by dsimp only; omega) _)
    pointwise [k0_pay9]

/-- The body's result block. -/
theorem out_eq (y : S1x512x1024.Idx) : out0_6 (F := Ideal) x0 x1 x2 x3 x4 x5 y = blockOf x0 x1 x2 x3 x4 x5 y := by
  unfold out0_6
  refine View.canon_apply_of_pieces (Val := Elt Ideal) (blockOf x0 x1 x2 x3 x4 x5) _ ?_ y (cover0_6 _ _ _ _ _ _ _ _ _ _ _ _ _ _ _ _ _ _ _ _ _ _ _ _ _ _ _ _ _ _ _ _ y)
  intro pc hpc x
  rcases List.mem_cons.mp hpc with rfl | hpc
  · exact piece_block x0 x1 x2 x3 x4 x5 384 896 7 slices_S512x1024_o384_896_S128x128 inb_S8x128x128_S1x128x128_7_0_0 inb_S128x8_S128x1_0_7 rfl x _ rfl rfl rfl
  rcases List.mem_cons.mp hpc with rfl | hpc
  · exact piece_block x0 x1 x2 x3 x4 x5 256 896 7 slices_S512x1024_o256_896_S128x128 inb_S8x128x128_S1x128x128_7_0_0 inb_S128x8_S128x1_0_7 rfl x _ rfl rfl rfl
  rcases List.mem_cons.mp hpc with rfl | hpc
  · exact piece_block x0 x1 x2 x3 x4 x5 128 896 7 slices_S512x1024_o128_896_S128x128 inb_S8x128x128_S1x128x128_7_0_0 inb_S128x8_S128x1_0_7 rfl x _ rfl rfl rfl
  rcases List.mem_cons.mp hpc with rfl | hpc
  · exact piece_block x0 x1 x2 x3 x4 x5 0 896 7 slices_S512x1024_o0_896_S128x128 inb_S8x128x128_S1x128x128_7_0_0 inb_S128x8_S128x1_0_7 rfl x _ rfl rfl rfl
  rcases List.mem_cons.mp hpc with rfl | hpc
  · exact piece_block x0 x1 x2 x3 x4 x5 384 768 6 slices_S512x1024_o384_768_S128x128 inb_S8x128x128_S1x128x128_6_0_0 inb_S128x8_S128x1_0_6 rfl x _ rfl rfl rfl
  rcases List.mem_cons.mp hpc with rfl | hpc
  · exact piece_block x0 x1 x2 x3 x4 x5 256 768 6 slices_S512x1024_o256_768_S128x128 inb_S8x128x128_S1x128x128_6_0_0 inb_S128x8_S128x1_0_6 rfl x _ rfl rfl rfl
  rcases List.mem_cons.mp hpc with rfl | hpc
  · exact piece_block x0 x1 x2 x3 x4 x5 128 768 6 slices_S512x1024_o128_768_S128x128 inb_S8x128x128_S1x128x128_6_0_0 inb_S128x8_S128x1_0_6 rfl x _ rfl rfl rfl
  rcases List.mem_cons.mp hpc with rfl | hpc
  · exact piece_block x0 x1 x2 x3 x4 x5 0 768 6 slices_S512x1024_o0_768_S128x128 inb_S8x128x128_S1x128x128_6_0_0 inb_S128x8_S128x1_0_6 rfl x _ rfl rfl rfl
  rcases List.mem_cons.mp hpc with rfl | hpc
  · exact piece_block x0 x1 x2 x3 x4 x5 384 640 5 slices_S512x1024_o384_640_S128x128 inb_S8x128x128_S1x128x128_5_0_0 inb_S128x8_S128x1_0_5 rfl x _ rfl rfl rfl
  rcases List.mem_cons.mp hpc with rfl | hpc
  · exact piece_block x0 x1 x2 x3 x4 x5 256 640 5 slices_S512x1024_o256_640_S128x128 inb_S8x128x128_S1x128x128_5_0_0 inb_S128x8_S128x1_0_5 rfl x _ rfl rfl rfl
  rcases List.mem_cons.mp hpc with rfl | hpc
  · exact piece_block x0 x1 x2 x3 x4 x5 128 640 5 slices_S512x1024_o128_640_S128x128 inb_S8x128x128_S1x128x128_5_0_0 inb_S128x8_S128x1_0_5 rfl x _ rfl rfl rfl
  rcases List.mem_cons.mp hpc with rfl | hpc
  · exact piece_block x0 x1 x2 x3 x4 x5 0 640 5 slices_S512x1024_o0_640_S128x128 inb_S8x128x128_S1x128x128_5_0_0 inb_S128x8_S128x1_0_5 rfl x _ rfl rfl rfl
  rcases List.mem_cons.mp hpc with rfl | hpc
  · exact piece_block x0 x1 x2 x3 x4 x5 384 512 4 slices_S512x1024_o384_512_S128x128 inb_S8x128x128_S1x128x128_4_0_0 inb_S128x8_S128x1_0_4 rfl x _ rfl rfl rfl
  rcases List.mem_cons.mp hpc with rfl | hpc
  · exact piece_block x0 x1 x2 x3 x4 x5 256 512 4 slices_S512x1024_o256_512_S128x128 inb_S8x128x128_S1x128x128_4_0_0 inb_S128x8_S128x1_0_4 rfl x _ rfl rfl rfl
  rcases List.mem_cons.mp hpc with rfl | hpc
  · exact piece_block x0 x1 x2 x3 x4 x5 128 512 4 slices_S512x1024_o128_512_S128x128 inb_S8x128x128_S1x128x128_4_0_0 inb_S128x8_S128x1_0_4 rfl x _ rfl rfl rfl
  rcases List.mem_cons.mp hpc with rfl | hpc
  · exact piece_block x0 x1 x2 x3 x4 x5 0 512 4 slices_S512x1024_o0_512_S128x128 inb_S8x128x128_S1x128x128_4_0_0 inb_S128x8_S128x1_0_4 rfl x _ rfl rfl rfl
  rcases List.mem_cons.mp hpc with rfl | hpc
  · exact piece_block x0 x1 x2 x3 x4 x5 384 384 3 slices_S512x1024_o384_384_S128x128 inb_S8x128x128_S1x128x128_3_0_0 inb_S128x8_S128x1_0_3 rfl x _ rfl rfl rfl
  rcases List.mem_cons.mp hpc with rfl | hpc
  · exact piece_block x0 x1 x2 x3 x4 x5 256 384 3 slices_S512x1024_o256_384_S128x128 inb_S8x128x128_S1x128x128_3_0_0 inb_S128x8_S128x1_0_3 rfl x _ rfl rfl rfl
  rcases List.mem_cons.mp hpc with rfl | hpc
  · exact piece_block x0 x1 x2 x3 x4 x5 128 384 3 slices_S512x1024_o128_384_S128x128 inb_S8x128x128_S1x128x128_3_0_0 inb_S128x8_S128x1_0_3 rfl x _ rfl rfl rfl
  rcases List.mem_cons.mp hpc with rfl | hpc
  · exact piece_block x0 x1 x2 x3 x4 x5 0 384 3 slices_S512x1024_o0_384_S128x128 inb_S8x128x128_S1x128x128_3_0_0 inb_S128x8_S128x1_0_3 rfl x _ rfl rfl rfl
  rcases List.mem_cons.mp hpc with rfl | hpc
  · exact piece_block x0 x1 x2 x3 x4 x5 384 256 2 slices_S512x1024_o384_256_S128x128 inb_S8x128x128_S1x128x128_2_0_0 inb_S128x8_S128x1_0_2 rfl x _ rfl rfl rfl
  rcases List.mem_cons.mp hpc with rfl | hpc
  · exact piece_block x0 x1 x2 x3 x4 x5 256 256 2 slices_S512x1024_o256_256_S128x128 inb_S8x128x128_S1x128x128_2_0_0 inb_S128x8_S128x1_0_2 rfl x _ rfl rfl rfl
  rcases List.mem_cons.mp hpc with rfl | hpc
  · exact piece_block x0 x1 x2 x3 x4 x5 128 256 2 slices_S512x1024_o128_256_S128x128 inb_S8x128x128_S1x128x128_2_0_0 inb_S128x8_S128x1_0_2 rfl x _ rfl rfl rfl
  rcases List.mem_cons.mp hpc with rfl | hpc
  · exact piece_block x0 x1 x2 x3 x4 x5 0 256 2 slices_S512x1024_o0_256_S128x128 inb_S8x128x128_S1x128x128_2_0_0 inb_S128x8_S128x1_0_2 rfl x _ rfl rfl rfl
  rcases List.mem_cons.mp hpc with rfl | hpc
  · exact piece_block x0 x1 x2 x3 x4 x5 384 128 1 slices_S512x1024_o384_128_S128x128 inb_S8x128x128_S1x128x128_1_0_0 inb_S128x8_S128x1_0_1 rfl x _ rfl rfl rfl
  rcases List.mem_cons.mp hpc with rfl | hpc
  · exact piece_block x0 x1 x2 x3 x4 x5 256 128 1 slices_S512x1024_o256_128_S128x128 inb_S8x128x128_S1x128x128_1_0_0 inb_S128x8_S128x1_0_1 rfl x _ rfl rfl rfl
  rcases List.mem_cons.mp hpc with rfl | hpc
  · exact piece_block x0 x1 x2 x3 x4 x5 128 128 1 slices_S512x1024_o128_128_S128x128 inb_S8x128x128_S1x128x128_1_0_0 inb_S128x8_S128x1_0_1 rfl x _ rfl rfl rfl
  rcases List.mem_cons.mp hpc with rfl | hpc
  · exact piece_block x0 x1 x2 x3 x4 x5 0 128 1 slices_S512x1024_o0_128_S128x128 inb_S8x128x128_S1x128x128_1_0_0 inb_S128x8_S128x1_0_1 rfl x _ rfl rfl rfl
  rcases List.mem_cons.mp hpc with rfl | hpc
  · exact piece_block x0 x1 x2 x3 x4 x5 384 0 0 slices_S512x1024_o384_0_S128x128 inb_S8x128x128_S1x128x128_0_0_0 inb_S128x8_S128x1_0_0 rfl x _ rfl rfl rfl
  rcases List.mem_cons.mp hpc with rfl | hpc
  · exact piece_block x0 x1 x2 x3 x4 x5 256 0 0 slices_S512x1024_o256_0_S128x128 inb_S8x128x128_S1x128x128_0_0_0 inb_S128x8_S128x1_0_0 rfl x _ rfl rfl rfl
  rcases List.mem_cons.mp hpc with rfl | hpc
  · exact piece_block x0 x1 x2 x3 x4 x5 128 0 0 slices_S512x1024_o128_0_S128x128 inb_S8x128x128_S1x128x128_0_0_0 inb_S128x8_S128x1_0_0 rfl x _ rfl rfl rfl
  rcases List.mem_cons.mp hpc with rfl | hpc
  · exact piece_block x0 x1 x2 x3 x4 x5 0 0 0 slices_S512x1024_o0_0_S128x128 inb_S8x128x128_S1x128x128_0_0_0 inb_S128x8_S128x1_0_0 rfl x _ rfl rfl rfl
  nomatch hpc

end Pieces

end Cert.GmlpIdeal.Body

end
-- ==== Proof.SpatialGatingClaims.lean ====
/-
  The spatial gating's result array as one function of the arguments, and the reference's result as the same function. The
  reference halves the activation in another order and takes its triangle as a product with ones and zeros; over the extended
  reals neither makes a difference.
-/
module

public import proofs.«01_k».proof.Defs
public import proofs.«01_k».proof.Proof.SpatialGating
public import proofs.«01_k».proof.Proof.Gen.GmlpRefIdeal.Read
public import Idealize.ShloMosaic.Lib.Pipeline.Cells
public import Idealize.ShloMosaic.Lib.Quiescent
public import Idealize.ShloMosaic.Lib.Claim
public import Idealize.ShloMosaic.Lib.StableHlo.ReadAt

@[expose] public section

noncomputable section

open Idealize.ShloMosaic Idealize.ShloMosaic.TcCoe Idealize.SL.Sem
open Idealize.ShloMosaic.Pipeline (Dat)

namespace Cert.Gating

/-- The gated value of sequence `e` at row `128 n + t` and column `128 g + j`, from the two column groups of the projection
`x`, the norm's gain `p` and offset `q`, the mixing matrices `w` and their offsets `b`. -/
def gated (x : Fin 8 → Fin 2048 → Fin 4096 → EReal) (p q : Fin 1024 → EReal) (w : Fin 8 → Fin 128 → Fin 128 → EReal) (b : Fin 8 → Fin 128 → EReal)
    (e : Fin 8) (n : Fin 16) (g : Fin 8) (t j : Fin 128) : EReal :=
  gelu (x e ⟨128 * n.val + t.val, by omega⟩ ⟨128 * g.val + j.val, by omega⟩)
    * (∑ s : Fin 128, lower (w g) t s
        * standard (fun k => gelu (x e ⟨128 * n.val + s.val, by omega⟩ ⟨1024 + k.val, by omega⟩)) (p ⟨128 * g.val + j.val, by omega⟩) (q ⟨128 * g.val + j.val, by omega⟩) ⟨128 * g.val + j.val, by omega⟩
      + b g t)

/-- The gated value at a row and a column. -/
def gatedAt (x : Fin 8 → Fin 2048 → Fin 4096 → EReal) (p q : Fin 1024 → EReal) (w : Fin 8 → Fin 128 → Fin 128 → EReal) (b : Fin 8 → Fin 128 → EReal)
    (e : Fin 8) (i : Fin 2048) (l : Fin 1024) : EReal :=
  gated x p q w b e ⟨i.val / 128, by omega⟩ ⟨l.val / 128, by omega⟩ ⟨i.val % 128, by omega⟩ ⟨l.val % 128, by omega⟩

end Cert.Gating

namespace Cert.GmlpIdeal.Body

open Cert.GmlpIdeal Cert.GmlpIdeal.Gen Cert.Gating

variable (m : (ℓ : Loc nD τ sig) → Buf (Elt Ideal) ℓ) (ρ : Dev nD → PrngReg) (c : Dev nD)

/-- The arguments as launched: the projection, the norm's gain and offset, the mixing matrices and their offsets. -/
abbrev proj : Vec Ideal S8x2048x4096 .bf16 := m ((c : Thread nD τ).loc main_arg0)
abbrev gain : Vec Ideal S1x1024 .f32 := m ((c : Thread nD τ).loc main_arg1)
abbrev shift : Vec Ideal S1x1024 .f32 := m ((c : Thread nD τ).loc main_arg2)
abbrev mixers : Vec Ideal S1x8x128x128 .f32 := m ((c : Thread nD τ).loc main_arg3)
abbrev offsets : Vec Ideal S1x8x128 .f32 := m ((c : Thread nD τ).loc main_arg4)

/-- The block indices of the windows at every grid point. -/
theorem index_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 1)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val / 4 ∧ win0_6.index t (1 : Fin 3) = t.val % 4 ∧ win0_6.index t (2 : Fin 3) = 0) :=
  (by decide +kernel : ∀ t : Fin grid0.N, _)

/-! The arrays that the grid finds are the arguments, reshaped and the offsets transposed. -/

theorem gain_entry (j : Fin 1024) : (V m c main_v4 : Vec Ideal S1x1024 .f32) (ix2 0 j) = gain m c (ix2 0 j) := by
  unfold V
  after_reads_at

theorem shift_entry (j : Fin 1024) : (V m c main_v5 : Vec Ideal S1x1024 .f32) (ix2 0 j) = shift m c (ix2 0 j) := by
  unfold V
  after_reads_at

theorem mixers_entry (g : Fin 8) (t s : Fin 128) : (V m c main_v2 : Vec Ideal S8x128x128 .f32) (ix3 g t s) = mixers m c (ix4 0 g t s) := by
  unfold V
  after_reads_at

theorem offsets_entry (t : Fin 128) (g : Fin 8) : (V m c main_v6 : Vec Ideal S128x8 .f32) (ix2 t g) = offsets m c (ix3 0 g t) := by
  unfold V
  after_reads_at

/-! Every window's block at an index, as the argument's element below it. -/

theorem first_block (t : Fin cfg0.N) (r : Fin 512) (l : Fin 1024) (e : Fin 8) (i : Fin 2048) (o : Fin 4096) (he : e.val = t.val / 4)
    (hi : i.val = t.val % 4 * 512 + r.val) (ho : o.val = l.val) : (iblk m c 0 t : Vec Ideal S1x512x1024 .bf16) (ix3 0 r l) = proj m c (ix3 e i o) := by
  obtain ⟨⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_0.index t 0 * 1 + 1 * 0 = e.val; rw [e0, he]; omega
  | ⟨1, _⟩ => show win0_0.index t 1 * 512 + 1 * r.val = i.val; rw [e1, hi]; omega
  | ⟨2, _⟩ => show win0_0.index t 2 * 1024 + 1 * l.val = o.val; rw [e2, ho]; omega

theorem second_block (t : Fin cfg0.N) (r : Fin 512) (l : Fin 1024) (e : Fin 8) (i : Fin 2048) (o : Fin 4096) (he : e.val = t.val / 4)
    (hi : i.val = t.val % 4 * 512 + r.val) (ho : o.val = 1024 + l.val) : (iblk m c 1 t : Vec Ideal S1x512x1024 .bf16) (ix3 0 r l) = proj m c (ix3 e i o) := by
  obtain ⟨-, ⟨e0, e1, e2⟩, -⟩ := index_facts t
  unfold iblk
  rw [View.read_apply]
  show V m c main_arg0 _ = _
  rw [V_main_arg0]
  refine congrArg (proj m c) (funext fun a => Fin.ext ?_)
  match a with
  | ⟨0, _⟩ => show win0_1.index t 0 * 1 + 1 * 0 = e.val; rw [e0, he]; omega
  | ⟨1, _⟩ => show win0_1.index t 1 * 512 + 1 * r.val = i.val; rw [e1, hi]; omega
  | ⟨2, _⟩ => show win0_1.index t 2 * 1024 + 1 * l.val = o.val; rw [e2, ho]; omega

theorem gain_block (t : Fin cfg0.N) (j : Fin 1024) : (iblk m c 2 t : Vec Ideal S1x1024 .f32) (ix2 0 j) = gain m c (ix2 0 j) := by
  obtain ⟨-, -, ⟨e0, e1⟩, -⟩ := index_facts t
  rw [← gain_entry]
  unfold iblk
  rw [View.read_apply]
  refine congrArg (V m c main_v4) (funext fun a => Fin.ext ?_)
  match a with
  | ⟨0, _⟩ => show win0_2.index t 0 * 1 + 1 * 0 = 0; rw [e0]
  | ⟨1, _⟩ => show win0_2.index t 1 * 1024 + 1 * j.val = j.val; rw [e1]; omega

theorem shift_block (t : Fin cfg0.N) (j : Fin 1024) : (iblk m c 3 t : Vec Ideal S1x1024 .f32) (ix2 0 j) = shift m c (ix2 0 j) := by
  obtain ⟨-, -, -, ⟨e0, e1⟩, -⟩ := index_facts t
  rw [← shift_entry]
  unfold iblk
  rw [View.read_apply]
  refine congrArg (V m c main_v5) (funext fun a => Fin.ext ?_)
  match a with
  | ⟨0, _⟩ => show win0_3.index t 0 * 1 + 1 * 0 = 0; rw [e0]
  | ⟨1, _⟩ => show win0_3.index t 1 * 1024 + 1 * j.val = j.val; rw [e1]; omega

theorem mixers_block (t : Fin cfg0.N) (g : Fin 8) (r s : Fin 128) : (iblk m c 4 t : Vec Ideal S8x128x128 .f32) (ix3 g r s) = mixers m c (ix4 0 g r s) := by
  obtain ⟨-, -, -, -, ⟨e0, e1, e2⟩, -⟩ := index_facts t
  rw [← mixers_entry]
  unfold iblk
  rw [View.read_apply]
  refine congrArg (V m c main_v2) (funext fun a => Fin.ext ?_)
  match a with
  | ⟨0, _⟩ => show win0_4.index t 0 * 8 + 1 * g.val = g.val; rw [e0]; omega
  | ⟨1, _⟩ => show win0_4.index t 1 * 128 + 1 * r.val = r.val; rw [e1]; omega
  | ⟨2, _⟩ => show win0_4.index t 2 * 128 + 1 * s.val = s.val; rw [e2]; omega

theorem offsets_block (t : Fin cfg0.N) (r : Fin 128) (g : Fin 8) : (iblk m c 5 t : Vec Ideal S128x8 .f32) (ix2 r g) = offsets m c (ix3 0 g r) := by
  obtain ⟨-, -, -, -, -, ⟨e0, e1⟩, -⟩ := index_facts t
  rw [← offsets_entry]
  unfold iblk
  rw [View.read_apply]
  refine congrArg (V m c main_v6) (funext fun a => Fin.ext ?_)
  match a with
  | ⟨0, _⟩ => show win0_5.index t 0 * 128 + 1 * r.val = r.val; rw [e0]; omega
  | ⟨1, _⟩ => show win0_5.index t 1 * 8 + 1 * g.val = g.val; rw [e1]; omega

/-- The result: the gated value of the arguments. -/
def entry (e : Fin 8) (i : Fin 2048) (l : Fin 1024) : EReal :=
  gatedAt (fun e i o => proj m c (ix3 e i o)) (fun l => gain m c (ix2 0 l)) (fun l => shift m c (ix2 0 l)) (fun g t s => mixers m c (ix4 0 g t s)) (fun g t => offsets m c (ix3 0 g t)) e i l

/-- The array that the launch is shown to leave. -/
abbrev result : Vec Ideal S8x2048x1024 .bf16 := fun i => entry m c (i 0) (i 1) (i 2)

/-- A grid point's block at an index is the entry below it. -/
theorem block_entry (t : Fin cfg0.N) (y : S1x512x1024.Idx) (e : Fin 8) (i : Fin 2048) (l : Fin 1024) (he : e.val = t.val / 4)
    (hi : i.val = t.val % 4 * 512 + (y 1).val) (hl : l.val = (y 2).val) :
    blockOf (iblk m c 0 t) (iblk m c 1 t) (iblk m c 2 t) (iblk m c 3 t) (iblk m c 4 t) (iblk m c 5 t) y = entry m c e i l := by
  have y1 : (y 1).val < 512 := (y 1).isLt
  have y2 : (y 2).val < 1024 := (y 2).isLt
  have e1 : (⟨i.val % 128, by omega⟩ : Fin 128) = ⟨(y 1).val % 128, by omega⟩ := Fin.ext (by dsimp only; omega)
  have e2 : (⟨l.val % 128, by omega⟩ : Fin 128) = ⟨(y 2).val % 128, by omega⟩ := Fin.ext (by dsimp only; omega)
  have e3 : (⟨l.val / 128, by omega⟩ : Fin 8) = ⟨(y 2).val / 128, by omega⟩ := Fin.ext (by dsimp only; omega)
  unfold blockOf entry gatedAt gatedOf gated
  rw [e1, e2, e3]
  refine congrArg₂ (· * · : EReal → EReal → EReal) (congrArg gelu ?_) (congrArg₂ (· + · : EReal → EReal → EReal)
    (Finset.sum_congr rfl fun s _ => congrArg₂ (· * · : EReal → EReal → EReal) ?_ ?_) ?_)
  · exact first_block m c t _ _ e _ _ he (by dsimp only; omega) rfl
  · simp only [mixers_block]
  · simp only [gain_block, shift_block]
    refine congrArg (fun f : Fin 1024 → EReal => standard f _ _ _) (funext fun k => congrArg gelu ?_)
    exact second_block m c t _ _ e _ _ he (by dsimp only; omega) rfl
  · exact offsets_block m c t _ _

/-- The sequence, the row and the column of the result under a block's. -/
theorem under_sequence (t : Fin cfg0.N) (y : S1x512x1024.Idx) : (((cfg0.win 6).blk t).view.emb y 0).val = t.val / 4 := by
  obtain ⟨-, -, -, -, -, -, e0, e1, e2⟩ := index_facts t
  have y0 : (y 0).val < 1 := (y 0).isLt
  show win0_6.index t (0 : Fin 3) * 1 + 1 * (y 0).val = _
  rw [e0]; omega

theorem under_row (t : Fin cfg0.N) (y : S1x512x1024.Idx) : (((cfg0.win 6).blk t).view.emb y 1).val = t.val % 4 * 512 + (y 1).val := by
  obtain ⟨-, -, -, -, -, -, e0, e1, e2⟩ := index_facts t
  show win0_6.index t (1 : Fin 3) * 512 + 1 * (y 1).val = _
  rw [e1]; omega

theorem under_col (t : Fin cfg0.N) (y : S1x512x1024.Idx) : (((cfg0.win 6).blk t).view.emb y 2).val = (y 2).val := by
  obtain ⟨-, -, -, -, -, -, e0, e1, e2⟩ := index_facts t
  show win0_6.index t (2 : Fin 3) * 1024 + 1 * (y 2).val = _
  rw [e2]; omega

/-- What a grid point writes back is its block of the result. -/
theorem flushed_eq (t : Fin cfg0.N) :
    (dats m 0 c).flushed 6 t = ((cfg0.win 6).blk t).view.read (Elt Ideal) (result m c) := by
  rw [Value.flushed6]
  funext y
  exact (out_eq _ _ _ _ _ _ (y : S1x512x1024.Idx)).trans
    (block_entry m c t y (((cfg0.win 6).blk t).view.emb y 0) (((cfg0.win 6).blk t).view.emb y 1) (((cfg0.win 6).blk t).view.emb y 2)
      (under_sequence t y) (under_row t y) (under_col t y))

/-- Every index of the result lies in the block of the grid point that its sequence and row name. -/
theorem covered (i : S8x2048x1024.Idx) : ∃ t : Fin cfg0.N, (cfg0.win 6).flush t = true ∧ i ∈ ((cfg0.win 6).blk t).view.set := by
  have hN : cfg0.N = 32 := N_0
  have i0 : (i 0).val < 8 := (i 0).isLt
  have i1 : (i 1).val < 2048 := (i 1).isLt
  have i2 : (i 2).val < 1024 := (i 2).isLt
  let t : Fin cfg0.N := ⟨(i 0).val * 4 + (i 1).val / 512, by omega⟩
  let y : S1x512x1024.Idx := ix3 0 ⟨(i 1).val % 512, by omega⟩ ⟨(i 2).val, by omega⟩
  have e : ((cfg0.win 6).blk t).view.emb y = i := funext fun a => Fin.ext (by
    match a with
    | ⟨0, _⟩ => exact (under_sequence t y).trans (by show ((i 0).val * 4 + (i 1).val / 512) / 4 = (i 0).val; omega)
    | ⟨1, _⟩ => exact (under_row t y).trans (by show ((i 0).val * 4 + (i 1).val / 512) % 4 * 512 + (i 1).val % 512 = (i 1).val; omega)
    | ⟨2, _⟩ => exact under_col t y)
  exact ⟨t, flush0_6 t, e ▸ ((cfg0.win 6).blk t).view.emb_mem_set y⟩

/-- So the result array ends holding the gated values: its blocks tile it. -/
theorem final_eq : (dats m 0 c).arrAt 6 cfg0.N = result m c :=
  (dats m 0 c).arrAt_eq_of_cover 6 _ (fun t _ => flushed_eq m c t) covered

/-- The run: the gated values, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩) (Value.run_blocks m ρ)

end Cert.GmlpIdeal.Body

namespace Cert.GmlpClaims

open Cert.GmlpRefIdeal Cert.GmlpRefIdeal.Read Cert.Gating

section Reference

variable (x : Vec Ideal S8x2048x4096 .bf16) (p q : Vec Ideal S1x1024 .f32) (w : Vec Ideal S1x8x128x128 .f32) (b : Vec Ideal S1x8x128 .f32)

/-- The activation with the half on the second factor is the activation. -/
theorem gelu_eq (z : EReal) : z * (Ideal.ofBits FTy.f32 1056964608#32
      * (Ideal.ofBits FTy.f32 1065353216#32 + Ideal.tanh (Ideal.ofBits FTy.f32 1061962282#32 * (z + Ideal.ofBits FTy.f32 1027024659#32 * (z * z * z))))) = gelu z := by
  unfold gelu
  rw [← mul_assoc, mul_comm z]

theorem first_apply (e : Fin 8) (i : Fin 2048) (l : Fin 1024) : val_main_v20 (F := Ideal) x (ix3 e i l) = gelu (x (ix3 e i ⟨l.val, by omega⟩)) := by
  rw [← gelu_eq]
  pointwise [val_main_v20, val_main_v19, val_main_v18, val_main_v17, val_main_v16, val_main_v15, val_main_v14, val_main_v13, val_main_v12, val_main_v11, val_main_v10, val_main_v9, val_main_v8, val_main_v1, val_main_v0, val_main_cst, val_main_cst_0, val_main_cst_1, val_main_cst_2]

theorem second_apply (e : Fin 8) (i : Fin 2048) (l : Fin 1024) : val_main_v33 (F := Ideal) x (ix3 e i l) = gelu (x (ix3 e i ⟨1024 + l.val, by omega⟩)) := by
  rw [← gelu_eq]
  pointwise [val_main_v33, val_main_v32, val_main_v31, val_main_v30, val_main_v29, val_main_v28, val_main_v27, val_main_v26, val_main_v25, val_main_v24, val_main_v23, val_main_v22, val_main_v21, val_main_v3, val_main_v2, val_main_cst_3, val_main_cst_4, val_main_cst_5, val_main_cst_6]

/-- A row of the second group after the activation. -/
abbrev row (e : Fin 8) (i : Fin 2048) : Fin 1024 → EReal := fun k => gelu (x (ix3 e i ⟨1024 + k.val, by omega⟩))

theorem mean_apply (e : Fin 8) (i : Fin 2048) : val_main_v37 (F := Ideal) x (ix3 e i 0) = mean (row x e i) := by
  have h (k : Fin 1024) := second_apply x e i k
  unfold mean
  simp only [row, ← h]
  pointwise [val_main_v37, val_main_v36, val_main_v35, val_main_v34, val_main_cst_7, val_main_cst_8]

theorem variance_apply (e : Fin 8) (i : Fin 2048) : val_main_v44 (F := Ideal) x (ix3 e i 0)
    = mean fun k => (row x e i k - mean (row x e i)) * (row x e i k - mean (row x e i)) := by
  have h (k : Fin 1024) := second_apply x e i k
  rw [← mean_apply]
  unfold mean
  simp only [row, ← h]
  pointwise [val_main_v44, val_main_v43, val_main_v42, val_main_v41, val_main_v40, val_main_v39, val_main_v38, val_main_cst_9, val_main_cst_10]

theorem standard_apply (e : Fin 8) (i : Fin 2048) (l : Fin 1024) : val_main_v57 (F := Ideal) x p q (ix3 e i l) = standard (row x e i) (p (ix2 0 l)) (q (ix2 0 l)) l := by
  unfold standard
  rw [← variance_apply, ← mean_apply]
  simp only [row, ← second_apply]
  pointwise [val_main_v57, val_main_v56, val_main_v55, val_main_v54, val_main_v53, val_main_v52, val_main_v51, val_main_v50, val_main_v49, val_main_v48, val_main_v47, val_main_v46, val_main_v45, val_main_v5, val_main_v4, val_main_cst_11]

/-- The triangle of ones. -/
theorem triangle_apply (t s : Fin 128) : val_main_v60 (F := Ideal) (ix2 t s) = if s.val ≤ t.val then 1 else 0 := by
  refine Eq.trans (b := Scalar.select (IntOp.cmpi .sge (BitVec.ofNat 32 t.val) (BitVec.ofNat 32 s.val)) 1 0) ?_ ?_
  · rw [← show IntOp.addi (BitVec.ofNat 32 t.val) 0#32 = BitVec.ofNat 32 t.val from BitVec.add_zero _]
    pointwise [val_main_v60, val_main_v59, val_main_call0_v4, val_main_call0_v5, val_main_call0_v3, val_main_call0_v2, val_main_call0_v1, val_main_call0_v0, val_main_call0_c, val_main_call0_cst, val_main_cst_12]
  · rw [sge_position]
    unfold Scalar.select
    split <;> rfl

/-- The mixing matrix times the triangle is the matrix kept on and under its diagonal. -/
theorem lower_apply (g : Fin 8) (t s : Fin 128) : val_main_v63 (F := Ideal) w (ix3 g t s) = lower (fun t s => w (ix4 0 g t s)) t s := by
  refine Eq.trans (b := w (ix4 0 g t s) * val_main_v60 (F := Ideal) (ix2 t s)) ?_ ?_
  · pointwise [val_main_v63, val_main_v62, val_main_v61, val_main_v6]
  · rw [triangle_apply]
    unfold lower
    split
    · exact mul_one _
    · exact mul_zero _

theorem split_apply (e : Fin 8) (n : Fin 16) (s : Fin 128) (g : Fin 8) (j : Fin 128) :
    val_main_v58 (F := Ideal) x p q (ix5 e n s g j) = val_main_v57 (F := Ideal) x p q (ix3 e ⟨128 * n.val + s.val, by omega⟩ ⟨128 * g.val + j.val, by omega⟩) := by
  rw [val_main_v58_apply]
  refine congrArg _ (funext fun a => Fin.ext ?_)
  match a with
  | ⟨0, _⟩ => show ((((e.val * 16 + n.val) * 128 + s.val) * 8 + g.val) * 128 + j.val) / 2097152 = e.val; omega
  | ⟨1, _⟩ => show ((((e.val * 16 + n.val) * 128 + s.val) * 8 + g.val) * 128 + j.val) / 1024 % 2048 = 128 * n.val + s.val; omega
  | ⟨2, _⟩ => show ((((e.val * 16 + n.val) * 128 + s.val) * 8 + g.val) * 128 + j.val) % 1024 = 128 * g.val + j.val; omega

theorem mixed_apply (e : Fin 8) (n : Fin 16) (t : Fin 128) (g : Fin 8) (j : Fin 128) :
    val_main_v69 (F := Ideal) x p q w b (ix5 e n t g j)
      = ∑ s : Fin 128, val_main_v58 (F := Ideal) x p q (ix5 e n s g j) * val_main_v63 (F := Ideal) w (ix3 g t s) + b (ix3 0 g t) := by
  pointwise [val_main_v69, val_main_v68, val_main_v67, val_main_v66, val_main_v65, val_main_v64, val_main_v7]

/-- The reference's result at an index is the gated value. -/
theorem reference_apply (e : Fin 8) (i : Fin 2048) (l : Fin 1024) : val_main_v72 (F := Ideal) x p q w b (ix3 e i l)
    = gatedAt (fun e i o => x (ix3 e i o)) (fun l => p (ix2 0 l)) (fun l => q (ix2 0 l)) (fun g t s => w (ix4 0 g t s)) (fun g t => b (ix3 0 g t)) e i l := by
  have e0 : idx_main_v70 (ix3 e i l) = ix5 e ⟨i.val / 128, by omega⟩ ⟨i.val % 128, by omega⟩ ⟨l.val / 128, by omega⟩ ⟨l.val % 128, by omega⟩ := funext fun a => Fin.ext (by
    match a with
    | ⟨0, _⟩ => show ((e.val * 2048 + i.val) * 1024 + l.val) / 2097152 = e.val; omega
    | ⟨1, _⟩ => show ((e.val * 2048 + i.val) * 1024 + l.val) / 131072 % 16 = i.val / 128; omega
    | ⟨2, _⟩ => show ((e.val * 2048 + i.val) * 1024 + l.val) / 1024 % 128 = i.val % 128; omega
    | ⟨3, _⟩ => show ((e.val * 2048 + i.val) * 1024 + l.val) / 128 % 8 = l.val / 128; omega
    | ⟨4, _⟩ => show ((e.val * 2048 + i.val) * 1024 + l.val) % 128 = l.val % 128; omega)
  refine Eq.trans (b := val_main_v20 (F := Ideal) x (ix3 e i l) * val_main_v70 (F := Ideal) x p q w b (ix3 e i l)) rfl ?_
  rw [val_main_v70_apply, e0, mixed_apply, first_apply]
  unfold gatedAt gated
  have hi : (⟨128 * (i.val / 128) + i.val % 128, by omega⟩ : Fin 2048) = i := Fin.ext (by dsimp only; omega)
  have hl : (⟨128 * (l.val / 128) + l.val % 128, by omega⟩ : Fin 4096) = ⟨l.val, by omega⟩ := Fin.ext (by dsimp only; omega)
  refine congr (congrArg HMul.hMul ?_) (congrArg (· + _) (Finset.sum_congr rfl fun s _ => ?_))
  · dsimp only
    rw [hi, hl]
  · rw [split_apply, standard_apply, lower_apply, mul_comm]

end Reference

/-- The spatial gating and its reference end equal over the extended reals. -/
theorem algebraic : Cert.algebraic_GmlpIdeal_GmlpRefIdeal := by
  intro m g m' g' _ hagree
  refine ⟨Cert.GmlpIdeal.Body.result m, Cert.GmlpIdeal.Body.run m g, ?_⟩
  refine (θ_run _ _ _).mono (fun r h c => ⟨(h c).1.trans ?_, (h c).2⟩) (Cert.GmlpRefIdeal.Value.run m' g')
  obtain ⟨e0, e1, e2, e3, e4⟩ := hagree c
  rw [val_main_v72_eq, e0, e1, e2, e3, e4]
  funext i
  rw [eq_ix3 i]
  exact reference_apply _ _ _ _ _ _ _ _

/-- The reference runs to the end, faults nowhere, and keeps its arguments. -/
theorem reference_frame : Cert.quiescent_GmlpRefIdeal := fun m g _ =>
  (θ_run _ _ _).mono (fun r h => ⟨fun c => (h c).2, sem_eq_zero_of_no_sems (by decide) r.2⟩)
    (Cert.GmlpRefIdeal.Value.run (F := Ideal) m g)

end Cert.GmlpClaims

end
-- ==== Proof.lean ====
/- The certificate's proof: every claim of `Cert.Claim`, assembled from the modules beside this one. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.InProjAb
public import proofs.«01_k».proof.Proof.Gen.InProjAb.Frame
public import proofs.«01_k».proof.Proof.Gen.InProjAbIdeal
public import proofs.«01_k».proof.Proof.Gen.InProjAbIdeal.Frame
public import proofs.«01_k».proof.Proof.Gen.InProjAbIdeal.Value
public import proofs.«01_k».proof.Proof.Gen.InProjCd
public import proofs.«01_k».proof.Proof.Gen.InProjCd.Frame
public import proofs.«01_k».proof.Proof.Gen.InProjCdIdeal
public import proofs.«01_k».proof.Proof.Gen.InProjCdIdeal.Frame
public import proofs.«01_k».proof.Proof.Gen.InProjCdIdeal.Value
public import proofs.«01_k».proof.Proof.Gen.CastRotate
public import proofs.«01_k».proof.Proof.Gen.CastRotate.Frame
public import proofs.«01_k».proof.Proof.Gen.CastRotateIdeal
public import proofs.«01_k».proof.Proof.Gen.CastRotateIdeal.Frame
public import proofs.«01_k».proof.Proof.Gen.CastRotateIdeal.Value
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Skeleton
public import proofs.«01_k».proof.Proof.Gen.OutProj.Skeleton
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.GmlpRefIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProjAbRefIdeal
public import proofs.«01_k».proof.Proof.Gen.InProjAbRefIdeal.Run
public import proofs.«01_k».proof.Proof.Gen.InProjAbRefIdeal.Read
public import proofs.«01_k».proof.Proof.Gen.InProjCdRefIdeal
public import proofs.«01_k».proof.Proof.Gen.InProjCdRefIdeal.Run
public import proofs.«01_k».proof.Proof.Gen.InProjCdRefIdeal.Read
public import proofs.«01_k».proof.Proof.Gen.CastRotateRefIdeal
public import proofs.«01_k».proof.Proof.Gen.CastRotateRefIdeal.Run
public import proofs.«01_k».proof.Proof.Gen.CastRotateRefIdeal.Read
public import proofs.«01_k».proof.Proof.Gen.Pre_finite
public import proofs.«01_k».proof.Proof.Frames
public import proofs.«01_k».proof.Proof.ProjAb
public import proofs.«01_k».proof.Proof.ProjCd
public import proofs.«01_k».proof.Proof.Rotate
public import proofs.«01_k».proof.Proof.Attention
public import proofs.«01_k».proof.Proof.OutRun
public import proofs.«01_k».proof.Proof.OutRunIdeal
public import proofs.«01_k».proof.Proof.OutProjection
public import proofs.«01_k».proof.Proof.SpatialGating
public import proofs.«01_k».proof.Proof.SpatialGatingClaims
public import Idealize.ShloMosaic.Adequacy
public import Idealize.ShloMosaic.Init

@[expose] public section

noncomputable section

namespace Cert.Proof

open Idealize.ShloMosaic Idealize.SL.Sem

/-- Every claim of the certificate: the programs' facts, then the frames, then the value claims pair by pair. -/
theorem claim : Cert.Claim :=
  ⟨Cert.Kernel.Gen.facts, Cert.KernelIdeal.Gen.facts, Cert.ReferenceIdeal.Gen.facts, Cert.InProjAb.Gen.facts, Cert.InProjAbIdeal.Gen.facts, Cert.InProjAbRefIdeal.Gen.facts, Cert.InProjCd.Gen.facts, Cert.InProjCdIdeal.Gen.facts, Cert.InProjCdRefIdeal.Gen.facts, Cert.CastRotate.Gen.facts, Cert.CastRotateIdeal.Gen.facts, Cert.CastRotateRefIdeal.Gen.facts, Cert.OutProj.Gen.facts, Cert.OutProjIdeal.Gen.facts, Cert.OutProjRefIdeal.Gen.facts, Cert.Gmlp.Gen.facts, Cert.GmlpIdeal.Gen.facts, Cert.GmlpRefIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    Cert.AttentionFrames.reference_frame,
    fun m g _ => Cert.AttentionFrames.reference_frame m g trivial,
    fun m ρ _ => Cert.InProjAb.Gen.frame m ρ,
    fun m ρ _ => Cert.InProjAbIdeal.Gen.frame m ρ,
    Cert.ProjAbClaims.reference_frame,
    fun m ρ _ => Cert.InProjCd.Gen.frame m ρ,
    fun m ρ _ => Cert.InProjCdIdeal.Gen.frame m ρ,
    Cert.ProjCdClaims.reference_frame,
    fun m ρ _ => Cert.CastRotate.Gen.frame m ρ,
    fun m ρ _ => Cert.CastRotateIdeal.Gen.frame m ρ,
    Cert.RotateClaims.reference_frame,
    fun m ρ _ => Cert.OutProj.Run.frame m ρ,
    fun m ρ _ => Cert.OutProjIdeal.Run.frame m ρ,
    Cert.OutProjClaims.reference_frame,
    fun m ρ _ => Cert.Gmlp.Gen.frame m ρ,
    fun m ρ _ => Cert.GmlpIdeal.Gen.frame m ρ,
    Cert.GmlpClaims.reference_frame,
    trivial,
    Cert.AttentionClaims.algebraic,
    trivial,
    Cert.ProjAbClaims.algebraic,
    trivial,
    Cert.ProjCdClaims.algebraic,
    trivial,
    Cert.RotateClaims.algebraic,
    Cert.OutProjClaims.preserves,
    Cert.OutProjClaims.algebraic,
    trivial,
    Cert.GmlpClaims.algebraic⟩

end Cert.Proof

end
